-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v14)) (v1 : (c : Dev Cert.KernelIdeal.nD) → Buf (Elt Ideal) ((c.tc : Thread Cert.KernelIdeal.nD Cert.KernelIdeal.τ).loc Cert.KernelIdeal.main_v16)) (v2 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_v16) = v1 c
          ∧ r.2.mem ((c.tc : Thread Cert.KernelIdeal.nD Cert.KernelIdeal.τ).loc Cert.KernelIdeal.main_v17) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_v31) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x4096 : Shape := ⟨2, ![4096, 4096]⟩
abbrev S8192x4096 : Shape := ⟨2, ![8192, 4096]⟩
abbrev S4096x8192 : Shape := ⟨2, ![4096, 8192]⟩
abbrev S4096x512 : Shape := ⟨2, ![4096, 512]⟩
abbrev S4096x384 : Shape := ⟨2, ![4096, 384]⟩
abbrev S512x32 : Shape := ⟨2, ![512, 32]⟩
abbrev S32 : Shape := ⟨1, ![32]⟩
abbrev S384x32 : Shape := ⟨2, ![384, 32]⟩
abbrev S1x32x32 : Shape := ⟨3, ![1, 32, 32]⟩
abbrev S1 : Shape := ⟨1, ![1]⟩
abbrev S8192 : Shape := ⟨1, ![8192]⟩
abbrev S32x512 : Shape := ⟨2, ![32, 512]⟩
abbrev S1x32 : Shape := ⟨2, ![1, 32]⟩
abbrev S32x384 : Shape := ⟨2, ![32, 384]⟩
abbrev S32x32 : Shape := ⟨2, ![32, 32]⟩
abbrev S1x1 : Shape := ⟨2, ![1, 1]⟩
abbrev S4096x64 : Shape := ⟨2, ![4096, 64]⟩
abbrev S1x8192 : Shape := ⟨2, ![1, 8192]⟩
abbrev S512x4096 : Shape := ⟨2, ![512, 4096]⟩
abbrev S256x512 : Shape := ⟨2, ![256, 512]⟩
abbrev S256x384 : Shape := ⟨2, ![256, 384]⟩
abbrev S4096x32 : Shape := ⟨2, ![4096, 32]⟩
abbrev S256x32 : Shape := ⟨2, ![256, 32]⟩
abbrev S1x4096 : Shape := ⟨2, ![1, 4096]⟩
abbrev S_ : Shape := ⟨0, ![]⟩
abbrev S8192x1 : Shape := ⟨2, ![8192, 1]⟩
abbrev S1x16384 : Shape := ⟨2, ![1, 16384]⟩
abbrev S32x8192 : Shape := ⟨2, ![32, 8192]⟩
abbrev S64x512 : Shape := ⟨2, ![64, 512]⟩
abbrev S8192x32 : Shape := ⟨2, ![8192, 32]⟩

abbrev nBuf : Space → Nat
  | .hbm => 40
  | .vmem => 36
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S8192x4096, .f32⟩
  | .hbm, ⟨5, _⟩ => ⟨S4096x8192, .f32⟩
  | .hbm, ⟨6, _⟩ => ⟨S4096x512, .f32⟩
  | .hbm, ⟨7, _⟩ => ⟨S4096x384, .f32⟩
  | .hbm, ⟨8, _⟩ => ⟨S4096x512, .f32⟩
  | .hbm, ⟨9, _⟩ => ⟨S4096x384, .f32⟩
  | .hbm, ⟨10, _⟩ => ⟨S512x32, .f32⟩
  | .hbm, ⟨11, _⟩ => ⟨S32, .f32⟩
  | .hbm, ⟨12, _⟩ => ⟨S384x32, .f32⟩
  | .hbm, ⟨13, _⟩ => ⟨S32, .f32⟩
  | .hbm, ⟨14, _⟩ => ⟨S1x32x32, .f32⟩
  | .hbm, ⟨15, _⟩ => ⟨S1, .f32⟩
  | .hbm, ⟨16, _⟩ => ⟨S8192, .i32⟩
  | .hbm, ⟨17, _⟩ => ⟨S32x512, .f32⟩
  | .hbm, ⟨18, _⟩ => ⟨S1x32, .f32⟩
  | .hbm, ⟨19, _⟩ => ⟨S32x384, .f32⟩
  | .hbm, ⟨20, _⟩ => ⟨S1x32, .f32⟩
  | .hbm, ⟨21, _⟩ => ⟨S32x32, .f32⟩
  | .hbm, ⟨22, _⟩ => ⟨S1x1, .f32⟩
  | .hbm, ⟨23, _⟩ => ⟨S4096x64, .f32⟩
  | .hbm, ⟨24, _⟩ => ⟨S1x8192, .f32⟩
  | .hbm, ⟨25, _⟩ => ⟨S1x8192, .f32⟩
  | .hbm, ⟨26, _⟩ => ⟨S_, .i32⟩
  | .hbm, ⟨27, _⟩ => ⟨S8192, .i32⟩
  | .hbm, ⟨28, _⟩ => ⟨S8192, .i1⟩
  | .hbm, ⟨29, _⟩ => ⟨S_, .i32⟩
  | .hbm, ⟨30, _⟩ => ⟨S8192, .i32⟩
  | .hbm, ⟨31, _⟩ => ⟨S8192, .i32⟩
  | .hbm, ⟨32, _⟩ => ⟨S8192, .i32⟩
  | .hbm, ⟨33, _⟩ => ⟨S8192x1, .i32⟩
  | .hbm, ⟨34, _⟩ => ⟨S1x8192, .f32⟩
  | .hbm, ⟨35, _⟩ => ⟨S1x16384, .f32⟩
  | .hbm, ⟨36, _⟩ => ⟨S32x8192, .f32⟩
  | .hbm, ⟨37, _⟩ => ⟨S32x8192, .f32⟩
  | .hbm, ⟨38, _⟩ => ⟨S8192x32, .f32⟩
  | .hbm, ⟨39, _⟩ => ⟨S8192x32, .f32⟩
  | .local _ .vmem, ⟨0, _⟩ => ⟨S512x4096, .f32⟩
  | .local _ .vmem, ⟨1, _⟩ => ⟨S512x4096, .f32⟩
  | .local _ .vmem, ⟨2, _⟩ => ⟨S512x4096, .f32⟩
  | .local _ .vmem, ⟨3, _⟩ => ⟨S512x4096, .f32⟩
  | .local _ .vmem, ⟨4, _⟩ => ⟨S256x512, .f32⟩
  | .local _ .vmem, ⟨5, _⟩ => ⟨S256x512, .f32⟩
  | .local _ .vmem, ⟨6, _⟩ => ⟨S256x384, .f32⟩
  | .local _ .vmem, ⟨7, _⟩ => ⟨S256x384, .f32⟩
  | .local _ .vmem, ⟨8, _⟩ => ⟨S256x512, .f32⟩
  | .local _ .vmem, ⟨9, _⟩ => ⟨S256x512, .f32⟩
  | .local _ .vmem, ⟨10, _⟩ => ⟨S256x384, .f32⟩
  | .local _ .vmem, ⟨11, _⟩ => ⟨S256x384, .f32⟩
  | .local _ .vmem, ⟨12, _⟩ => ⟨S32x512, .f32⟩
  | .local _ .vmem, ⟨13, _⟩ => ⟨S1x32, .f32⟩
  | .local _ .vmem, ⟨14, _⟩ => ⟨S32x384, .f32⟩
  | .local _ .vmem, ⟨15, _⟩ => ⟨S1x32, .f32⟩
  | .local _ .vmem, ⟨16, _⟩ => ⟨S32x32, .f32⟩
  | .local _ .vmem, ⟨17, _⟩ => ⟨S1x1, .f32⟩
  | .local _ .vmem, ⟨18, _⟩ => ⟨S4096x64, .f32⟩
  | .local _ .vmem, ⟨19, _⟩ => ⟨S1x8192, .f32⟩
  | .local _ .vmem, ⟨20, _⟩ => ⟨S1x8192, .f32⟩
  | .local _ .vmem, ⟨21, _⟩ => ⟨S4096x32, .f32⟩
  | .local _ .vmem, ⟨22, _⟩ => ⟨S4096x32, .f32⟩
  | .local _ .vmem, ⟨23, _⟩ => ⟨S4096x32, .f32⟩
  | .local _ .vmem, ⟨24, _⟩ => ⟨S4096x32, .f32⟩
  | .local _ .vmem, ⟨25, _⟩ => ⟨S4096x32, .f32⟩
  | .local _ .vmem, ⟨26, _⟩ => ⟨S4096x32, .f32⟩
  | .local _ .vmem, ⟨27, _⟩ => ⟨S4096x32, .f32⟩
  | .local _ .vmem, ⟨28, _⟩ => ⟨S4096x32, .f32⟩
  | .local _ .vmem, ⟨29, _⟩ => ⟨S512x4096, .f32⟩
  | .local _ .vmem, ⟨30, _⟩ => ⟨S512x4096, .f32⟩
  | .local _ .vmem, ⟨31, _⟩ => ⟨S4096x64, .f32⟩
  | .local _ .vmem, ⟨32, _⟩ => ⟨S32x512, .f32⟩
  | .local _ .vmem, ⟨33, _⟩ => ⟨S32x512, .f32⟩
  | .local _ .vmem, ⟨34, _⟩ => ⟨S32x512, .f32⟩
  | .local _ .vmem, ⟨35, _⟩ => ⟨S32x512, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6_0 : Ref sig .tc := ⟨.hbm, 23, rfl⟩
abbrev main_v6_1 : Ref sig .tc := ⟨.hbm, 24, rfl⟩
abbrev main_v6_2 : Ref sig .tc := ⟨.hbm, 25, rfl⟩
abbrev main_c_0 : Ref sig .tc := ⟨.hbm, 26, rfl⟩
abbrev main_v7 : Ref sig .tc := ⟨.hbm, 27, rfl⟩
abbrev main_v8 : Ref sig .tc := ⟨.hbm, 28, rfl⟩
abbrev main_c_1 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15_0 : Ref sig .tc := ⟨.hbm, 36, rfl⟩
abbrev main_v15_1 : Ref sig .tc := ⟨.hbm, 37, rfl⟩
abbrev main_v16 : Ref sig .tc := ⟨.hbm, 38, rfl⟩
abbrev main_v17 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_scratch4 : Ref sig .tc := ⟨.vmem, 25, rfl⟩
abbrev cc0_scratch5 : Ref sig .tc := ⟨.vmem, 26, rfl⟩
abbrev cc0_scratch6 : Ref sig .tc := ⟨.vmem, 27, rfl⟩
abbrev cc0_scratch7 : Ref sig .tc := ⟨.vmem, 28, rfl⟩
abbrev cc1_stg0_0 : Ref sig .tc := ⟨.vmem, 29, rfl⟩
abbrev cc1_stg0_1 : Ref sig .tc := ⟨.vmem, 30, rfl⟩
abbrev cc1_stg1_0 : Ref sig .tc := ⟨.vmem, 31, rfl⟩
abbrev cc1_stg2_0 : Ref sig .tc := ⟨.vmem, 32, rfl⟩
abbrev cc1_stg2_1 : Ref sig .tc := ⟨.vmem, 33, rfl⟩
abbrev cc1_stg3_0 : Ref sig .tc := ⟨.vmem, 34, rfl⟩
abbrev cc1_stg3_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc1_sem0_0 : DmaSem sig := 21
abbrev cc1_sem0_1 : DmaSem sig := 22
abbrev cc1_sem1_0 : DmaSem sig := 23
abbrev cc1_sem2_0 : DmaSem sig := 24
abbrev cc1_sem2_1 : DmaSem sig := 25
abbrev cc1_sem3_0 : DmaSem sig := 26
abbrev cc1_sem3_1 : DmaSem sig := 27

abbrev nD : Nat := 1
abbrev τ : Topo := Topo.v7x

variable {F : FTy → Type} [FloatOps F]

abbrev grid0 : Pipeline.Grid := ⟨1, ![33], ![false]⟩

def k0_cond1 (i : grid0.Coords) : BitVec 1 :=
  let arg0 : BitVec 32 := BitVec.ofNat 32 (i 0).val
  let c16_i32 : BitVec 32 := 16#32
  let v0 : BitVec 1 := Scalar.cmpi .slt arg0 c16_i32
  let v1 : BitVec 32 := Scalar.extui v0
  let c0_i32 : BitVec 32 := 0#32
  let v2 : BitVec 1 := Scalar.cmpi .ne v1 c0_i32
  v2

def k0_off1 (i : grid0.Coords) : Fin 2 → Nat :=
  let arg0 : BitVec 32 := BitVec.ofNat 32 (i 0).val
  let c256_i32 : BitVec 32 := 256#32
  let v16 : BitVec 32 := Scalar.muli arg0 c256_i32
  let v25 : Index := Scalar.indexCast v16
  let c0_11 : Index := 0#32
  ![v25.toNat, 0]
def k0_cond2 (i : grid0.Coords) : BitVec 1 :=
  let arg0 : BitVec 32 := BitVec.ofNat 32 (i 0).val
  let c16_i32_0 : BitVec 32 := 16#32
  let v3 : BitVec 1 := Scalar.cmpi .sge arg0 c16_i32_0
  let c24_i32 : BitVec 32 := 24#32
  let v4 : BitVec 1 := Scalar.cmpi .slt arg0 c24_i32
  let v5 : BitVec 1 := Scalar.andi v3 v4
  let v6 : BitVec 32 := Scalar.extui v5
  let c0_i32_1 : BitVec 32 := 0#32
  let v7 : BitVec 1 := Scalar.cmpi .ne v6 c0_i32_1
  v7

def k0_off2 (i : grid0.Coords) : Fin 2 → Nat :=
  let arg0 : BitVec 32 := BitVec.ofNat 32 (i 0).val
  let c16_i32_6 : BitVec 32 := 16#32
  let v16 : BitVec 32 := Scalar.subi arg0 c16_i32_6
  let c512_i32 : BitVec 32 := 512#32
  let v17 : BitVec 32 := Scalar.muli v16 c512_i32
  let v21 : Index := Scalar.indexCast v17
  let c0_10 : Index := 0#32
  ![v21.toNat, 0]
def k0_cond3 (i : grid0.Coords) : BitVec 1 :=
  let arg0 : BitVec 32 := BitVec.ofNat 32 (i 0).val
  let c24_i32_2 : BitVec 32 := 24#32
  let v8 : BitVec 1 := Scalar.cmpi .sge arg0 c24_i32_2
  let c32_i32 : BitVec 32 := 32#32
  let v9 : BitVec 1 := Scalar.cmpi .slt arg0 c32_i32
  let v10 : BitVec 1 := Scalar.andi v8 v9
  let v11 : BitVec 32 := Scalar.extui v10
  let c0_i32_3 : BitVec 32 := 0#32
  let v12 : BitVec 1 := Scalar.cmpi .ne v11 c0_i32_3
  v12

def k0_off3 (i : grid0.Coords) : Fin 2 → Nat :=
  let arg0 : BitVec 32 := BitVec.ofNat 32 (i 0).val
  let c24_i32_6 : BitVec 32 := 24#32
  let v16 : BitVec 32 := Scalar.subi arg0 c24_i32_6
  let c512_i32 : BitVec 32 := 512#32
  let v17 : BitVec 32 := Scalar.muli v16 c512_i32
  let v21 : Index := Scalar.indexCast v17
  let c0_10 : Index := 0#32
  ![v21.toNat, 0]
def k0_cond4 (i : grid0.Coords) : BitVec 1 :=
  let arg0 : BitVec 32 := BitVec.ofNat 32 (i 0).val
  let c32_i32_4 : BitVec 32 := 32#32
  let v13 : BitVec 1 := Scalar.cmpi .eq arg0 c32_i32_4
  let v14 : BitVec 32 := Scalar.extui v13
  let c0_i32_5 : BitVec 32 := 0#32
  let v15 : BitVec 1 := Scalar.cmpi .ne v14 c0_i32_5
  v15

def cc0_transform_0 (i : grid0.Coords) : Fin 2 → Nat :=
  let arg0 : BitVec 32 := BitVec.ofNat 32 (i 0).val
  let c24_i32 : BitVec 32 := 24#32
  let v0 : BitVec 1 := Scalar.cmpi .slt arg0 c24_i32
  let c16_i32 : BitVec 32 := 16#32
  let v1 : BitVec 32 := Scalar.subi arg0 c16_i32
  let c24_i32_0 : BitVec 32 := 24#32
  let v2 : BitVec 32 := Scalar.subi arg0 c24_i32_0
  let v3 : BitVec 32 := Scalar.select v0 v1 v2
  let c0_i32 : BitVec 32 := 0#32
  let c7_i32 : BitVec 32 := 7#32
  let v4 : BitVec 32 := Scalar.maxsi c0_i32 v3
  let v5 : BitVec 32 := Scalar.minsi c7_i32 v4
  let c0_i32_1 : BitVec 32 := 0#32
  let c0_i32_2 : BitVec 32 := 0#32
  ![v5.toNat, c0_i32_1.toNat]

def cc0_transform_1 (i : grid0.Coords) : Fin 2 → Nat :=
  let arg0 : BitVec 32 := BitVec.ofNat 32 (i 0).val
  let c24_i32 : BitVec 32 := 24#32
  let v0 : BitVec 1 := Scalar.cmpi .slt arg0 c24_i32
  let c16_i32 : BitVec 32 := 16#32
  let v1 : BitVec 32 := Scalar.subi arg0 c16_i32
  let c24_i32_0 : BitVec 32 := 24#32
  let v2 : BitVec 32 := Scalar.subi arg0 c24_i32_0
  let v3 : BitVec 32 := Scalar.select v0 v1 v2
  let c0_i32 : BitVec 32 := 0#32
  let c7_i32 : BitVec 32 := 7#32
  let v4 : BitVec 32 := Scalar.maxsi c0_i32 v3
  let v5 : BitVec 32 := Scalar.minsi c7_i32 v4
  let c0_i32_1 : BitVec 32 := 0#32
  let c0_i32_2 : BitVec 32 := 0#32
  ![v5.toNat, c0_i32_1.toNat]

def cc0_transform_2 (i : grid0.Coords) : Fin 2 → Nat :=
  let arg0 : BitVec 32 := BitVec.ofNat 32 (i 0).val
  let c0_i32 : BitVec 32 := 0#32
  let c15_i32 : BitVec 32 := 15#32
  let v0 : BitVec 32 := Scalar.maxsi c0_i32 arg0
  let v1 : BitVec 32 := Scalar.minsi c15_i32 v0
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c0_i32 : BitVec 32 := 0#32
  let c15_i32 : BitVec 32 := 15#32
  let v0 : BitVec 32 := Scalar.maxsi c0_i32 arg0
  let v1 : BitVec 32 := Scalar.minsi c15_i32 v0
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c0_i32 : BitVec 32 := 0#32
  let c15_i32 : BitVec 32 := 15#32
  let v0 : BitVec 32 := Scalar.maxsi c0_i32 arg0
  let v1 : BitVec 32 := Scalar.minsi c15_i32 v0
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c0_i32 : BitVec 32 := 0#32
  let c15_i32 : BitVec 32 := 15#32
  let v0 : BitVec 32 := Scalar.maxsi c0_i32 arg0
  let v1 : BitVec 32 := Scalar.minsi c15_i32 v0
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S32x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S32x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4096x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x8192 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x8192 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S32x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S32x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]
-- ==== ReferenceIdeal.lean ====
abbrev S4096x4096 : Shape := ⟨2, ![4096, 4096]⟩
abbrev S8192x4096 : Shape := ⟨2, ![8192, 4096]⟩
abbrev S4096x8192 : Shape := ⟨2, ![4096, 8192]⟩
abbrev S4096x512 : Shape := ⟨2, ![4096, 512]⟩
abbrev S4096x384 : Shape := ⟨2, ![4096, 384]⟩
abbrev S512x32 : Shape := ⟨2, ![512, 32]⟩
abbrev S32 : Shape := ⟨1, ![32]⟩
abbrev S384x32 : Shape := ⟨2, ![384, 32]⟩
abbrev S1x32x32 : Shape := ⟨3, ![1, 32, 32]⟩
abbrev S1 : Shape := ⟨1, ![1]⟩
abbrev S4096 : Shape := ⟨1, ![4096]⟩
abbrev S4096x32 : Shape := ⟨2, ![4096, 32]⟩
abbrev S1x32 : Shape := ⟨2, ![1, 32]⟩
abbrev S_ : Shape := ⟨0, ![]⟩
abbrev S4096x1 : Shape := ⟨2, ![4096, 1]⟩
abbrev S1x1 : Shape := ⟨2, ![1, 1]⟩
abbrev S8192x32 : Shape := ⟨2, ![8192, 32]⟩
abbrev S1x1x1x32 : Shape := ⟨4, ![1, 1, 1, 32]⟩
abbrev S8192x1x1x32 : Shape := ⟨4, ![8192, 1, 1, 32]⟩
abbrev S1x32x8192 : Shape := ⟨3, ![1, 32, 8192]⟩
abbrev S8192x1 : Shape := ⟨2, ![8192, 1]⟩
abbrev S8192 : Shape := ⟨1, ![8192]⟩
abbrev S1x8192 : Shape := ⟨2, ![1, 8192]⟩
abbrev S1x16384 : Shape := ⟨2, ![1, 16384]⟩

abbrev nBuf : Space → Nat
  | .hbm => 131
  | .vmem => 0
  | .smem => 0
  | _ => 0

abbrev hbmTy0_0 (i : Nat) : BufTy := match i % 128 with
  | 0 => ⟨S4096x4096, .f32⟩
  | 1 => ⟨S4096x4096, .f32⟩
  | 2 => ⟨S4096x4096, .f32⟩
  | 3 => ⟨S4096x4096, .f32⟩
  | 4 => ⟨S8192x4096, .f32⟩
  | 5 => ⟨S4096x8192, .f32⟩
  | 6 => ⟨S4096x512, .f32⟩
  | 7 => ⟨S4096x384, .f32⟩
  | 8 => ⟨S4096x512, .f32⟩
  | 9 => ⟨S4096x384, .f32⟩
  | 10 => ⟨S512x32, .f32⟩
  | 11 => ⟨S32, .f32⟩
  | 12 => ⟨S384x32, .f32⟩
  | 13 => ⟨S32, .f32⟩
  | 14 => ⟨S1x32x32, .f32⟩
  | 15 => ⟨S1, .f32⟩
  | 16 => ⟨S4096, .i32⟩
  | 17 => ⟨S4096, .i32⟩
  | 18 => ⟨S4096x32, .f32⟩
  | 19 => ⟨S1x32, .f32⟩
  | 20 => ⟨S4096x32, .f32⟩
  | 21 => ⟨S4096x32, .f32⟩
  | 22 => ⟨S4096x32, .f32⟩
  | 23 => ⟨S1x32, .f32⟩
  | 24 => ⟨S4096x32, .f32⟩
  | 25 => ⟨S4096x32, .f32⟩
  | 26 => ⟨S_, .i32⟩
  | 27 => ⟨S4096, .i32⟩
  | 28 => ⟨S4096, .i1⟩
  | 29 => ⟨S_, .i32⟩
  | 30 => ⟨S4096, .i32⟩
  | 31 => ⟨S4096, .i32⟩
  | 32 => ⟨S4096, .i32⟩
  | 33 => ⟨S4096x1, .i32⟩
  | 34 => ⟨S1, .i32⟩
  | 35 => ⟨S_, .i32⟩
  | 36 => ⟨S4096x1, .i32⟩
  | 37 => ⟨S4096x1, .i1⟩
  | 38 => ⟨S1x1, .i32⟩
  | 39 => ⟨S4096x1, .i32⟩
  | 40 => ⟨S4096x1, .i1⟩
  | 41 => ⟨S4096x1, .i1⟩
  | 42 => ⟨S_, .i1⟩
  | 43 => ⟨S4096, .i1⟩
  | 44 => ⟨S4096x512, .f32⟩
  | 45 => ⟨S4096x512, .i1⟩
  | 46 => ⟨S_, .f32⟩
  | 47 => ⟨S4096x512, .f32⟩
  | 48 => ⟨S4096x512, .f32⟩
  | 49 => ⟨S4096x32, .f32⟩
  | 50 => ⟨S1x32, .f32⟩
  | 51 => ⟨S4096x32, .f32⟩
  | 52 => ⟨S4096x32, .f32⟩
  | 53 => ⟨S_, .i32⟩
  | 54 => ⟨S4096, .i32⟩
  | 55 => ⟨S4096, .i1⟩
  | 56 => ⟨S_, .i32⟩
  | 57 => ⟨S4096, .i32⟩
  | 58 => ⟨S4096, .i32⟩
  | 59 => ⟨S4096, .i32⟩
  | 60 => ⟨S4096x1, .i32⟩
  | 61 => ⟨S1, .i32⟩
  | 62 => ⟨S_, .i32⟩
  | 63 => ⟨S4096x1, .i32⟩
  | 64 => ⟨S4096x1, .i1⟩
  | 65 => ⟨S1x1, .i32⟩
  | 66 => ⟨S4096x1, .i32⟩
  | 67 => ⟨S4096x1, .i1⟩
  | 68 => ⟨S4096x1, .i1⟩
  | 69 => ⟨S_, .i1⟩
  | 70 => ⟨S4096, .i1⟩
  | 71 => ⟨S4096x384, .f32⟩
  | 72 => ⟨S4096x384, .i1⟩
  | 73 => ⟨S_, .f32⟩
  | 74 => ⟨S4096x384, .f32⟩
  | 75 => ⟨S4096x384, .f32⟩
  | 76 => ⟨S4096x32, .f32⟩
  | 77 => ⟨S1x32, .f32⟩
  | 78 => ⟨S4096x32, .f32⟩
  | 79 => ⟨S4096x32, .f32⟩
  | 80 => ⟨S4096x32, .f32⟩
  | 81 => ⟨S4096x32, .f32⟩
  | 82 => ⟨S4096x32, .f32⟩
  | 83 => ⟨S4096x32, .f32⟩
  | 84 => ⟨S8192x32, .f32⟩
  | 85 => ⟨S8192x32, .f32⟩
  | 86 => ⟨S8192x32, .f32⟩
  | 87 => ⟨S8192x32, .f32⟩
  | 88 => ⟨S4096x32, .f32⟩
  | 89 => ⟨S4096x32, .f32⟩
  | 90 => ⟨S4096x32, .f32⟩
  | 91 => ⟨S4096x32, .f32⟩
  | 92 => ⟨S8192x32, .f32⟩
  | 93 => ⟨S8192x32, .f32⟩
  | 94 => ⟨S8192x32, .f32⟩
  | 95 => ⟨S8192x32, .f32⟩
  | 96 => ⟨S4096x32, .f32⟩
  | 97 => ⟨S_, .f32⟩
  | 98 => ⟨S4096x32, .f32⟩
  | 99 => ⟨S4096x32, .f32⟩
  | 100 => ⟨S_, .f32⟩
  | 101 => ⟨S32, .f32⟩
  | 102 => ⟨S32, .f32⟩
  | 103 => ⟨S32, .f32⟩
  | 104 => ⟨S_, .f32⟩
  | 105 => ⟨S32, .f32⟩
  | 106 => ⟨S32, .f32⟩
  | 107 => ⟨S_, .f32⟩
  | 108 => ⟨S32, .f32⟩
  | 109 => ⟨S32, .f32⟩
  | 110 => ⟨S1x32, .f32⟩
  | 111 => ⟨S1x1x1x32, .f32⟩
  | 112 => ⟨S8192x1x1x32, .f32⟩
  | 113 => ⟨S8192x32, .f32⟩
  | 114 => ⟨S8192x32, .f32⟩
  | 115 => ⟨S8192x32, .f32⟩
  | 116 => ⟨S1x32x8192, .f32⟩
  | 117 => ⟨S8192x1, .f32⟩
  | 118 => ⟨S1x1, .f32⟩
  | 119 => ⟨S8192x1, .f32⟩
  | 120 => ⟨S8192x1, .f32⟩
  | 121 => ⟨S8192, .f32⟩
  | 122 => ⟨S1x8192, .f32⟩
  | 123 => ⟨S1x32x8192, .f32⟩
  | 124 => ⟨S8192x1, .f32⟩
  | 125 => ⟨S1x1, .f32⟩
  | 126 => ⟨S8192x1, .f32⟩
  | 127 => ⟨S8192x1, .f32⟩
  | _ => ⟨S4096x4096, .f32⟩

abbrev hbmTy0_1 (i : Nat) : BufTy := match i % 128 with
  | 0 => ⟨S8192, .f32⟩
  | 1 => ⟨S1x8192, .f32⟩
  | 2 => ⟨S1x16384, .f32⟩
  | _ => ⟨S4096x4096, .f32⟩

abbrev hbmTy (i : Nat) : BufTy := match i / 128 with
  | 0 => hbmTy0_0 i
  | 1 => hbmTy0_1 i
  | _ => ⟨S4096x4096, .f32⟩

abbrev bufTy : (tb : Table) → Fin (tcTables nBuf tb) → BufTy
  | .hbm, ⟨i, _⟩ => hbmTy i
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_c_0 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_call0_c : Ref sig .tc := ⟨.hbm, 26, rfl⟩
abbrev main_call0_v0 : Ref sig .tc := ⟨.hbm, 27, rfl⟩
abbrev main_call0_v1 : Ref sig .tc := ⟨.hbm, 28, rfl⟩
abbrev main_call0_c_0 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_c_1 : Ref sig .tc := ⟨.hbm, 34, rfl⟩
abbrev main_call0_c_2 : Ref sig .tc := ⟨.hbm, 35, rfl⟩
abbrev main_call0_v6 : Ref sig .tc := ⟨.hbm, 36, rfl⟩
abbrev main_call0_v7 : Ref sig .tc := ⟨.hbm, 37, rfl⟩
abbrev main_call0_v8 : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_c_3 : Ref sig .tc := ⟨.hbm, 42, rfl⟩
abbrev main_call0_v12 : Ref sig .tc := ⟨.hbm, 43, rfl⟩
abbrev main_call0_v13 : Ref sig .tc := ⟨.hbm, 44, rfl⟩
abbrev main_call0_v14 : Ref sig .tc := ⟨.hbm, 45, rfl⟩
abbrev main_call0_cst : Ref sig .tc := ⟨.hbm, 46, rfl⟩
abbrev main_call0_v15 : Ref sig .tc := ⟨.hbm, 47, rfl⟩
abbrev main_v8 : Ref sig .tc := ⟨.hbm, 48, rfl⟩
abbrev main_v9 : Ref sig .tc := ⟨.hbm, 49, rfl⟩
abbrev main_v10 : Ref sig .tc := ⟨.hbm, 50, rfl⟩
abbrev main_v11 : Ref sig .tc := ⟨.hbm, 51, rfl⟩
abbrev main_v12 : Ref sig .tc := ⟨.hbm, 52, rfl⟩
abbrev main_call1_c : Ref sig .tc := ⟨.hbm, 53, rfl⟩
abbrev main_call1_v0 : Ref sig .tc := ⟨.hbm, 54, rfl⟩
abbrev main_call1_v1 : Ref sig .tc := ⟨.hbm, 55, rfl⟩
abbrev main_call1_c_0 : Ref sig .tc := ⟨.hbm, 56, rfl⟩
abbrev main_call1_v2 : Ref sig .tc := ⟨.hbm, 57, rfl⟩
abbrev main_call1_v3 : Ref sig .tc := ⟨.hbm, 58, rfl⟩
abbrev main_call1_v4 : Ref sig .tc := ⟨.hbm, 59, rfl⟩
abbrev main_call1_v5 : Ref sig .tc := ⟨.hbm, 60, rfl⟩
abbrev main_call1_c_1 : Ref sig .tc := ⟨.hbm, 61, rfl⟩
abbrev main_call1_c_2 : Ref sig .tc := ⟨.hbm, 62, rfl⟩
abbrev main_call1_v6 : Ref sig .tc := ⟨.hbm, 63, rfl⟩
abbrev main_call1_v7 : Ref sig .tc := ⟨.hbm, 64, rfl⟩
abbrev main_call1_v8 : Ref sig .tc := ⟨.hbm, 65, rfl⟩
abbrev main_call1_v9 : Ref sig .tc := ⟨.hbm, 66, rfl⟩
abbrev main_call1_v10 : Ref sig .tc := ⟨.hbm, 67, rfl⟩
abbrev main_call1_v11 : Ref sig .tc := ⟨.hbm, 68, rfl⟩
abbrev main_call1_c_3 : Ref sig .tc := ⟨.hbm, 69, rfl⟩
abbrev main_call1_v12 : Ref sig .tc := ⟨.hbm, 70, rfl⟩
abbrev main_call1_v13 : Ref sig .tc := ⟨.hbm, 71, rfl⟩
abbrev main_call1_v14 : Ref sig .tc := ⟨.hbm, 72, rfl⟩
abbrev main_call1_cst : Ref sig .tc := ⟨.hbm, 73, rfl⟩
abbrev main_call1_v15 : Ref sig .tc := ⟨.hbm, 74, rfl⟩
abbrev main_v13 : Ref sig .tc := ⟨.hbm, 75, rfl⟩
abbrev main_v14 : Ref sig .tc := ⟨.hbm, 76, rfl⟩
abbrev main_v15 : Ref sig .tc := ⟨.hbm, 77, rfl⟩
abbrev main_v16 : Ref sig .tc := ⟨.hbm, 78, rfl⟩
abbrev main_v17 : Ref sig .tc := ⟨.hbm, 79, rfl⟩
abbrev main_v18 : Ref sig .tc := ⟨.hbm, 80, rfl⟩
abbrev main_v19 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_v23 : Ref sig .tc := ⟨.hbm, 85, rfl⟩
abbrev main_v24 : Ref sig .tc := ⟨.hbm, 86, rfl⟩
abbrev main_v25 : Ref sig .tc := ⟨.hbm, 87, rfl⟩
abbrev main_v26 : Ref sig .tc := ⟨.hbm, 88, rfl⟩
abbrev main_v27 : Ref sig .tc := ⟨.hbm, 89, rfl⟩
abbrev main_v28 : Ref sig .tc := ⟨.hbm, 90, rfl⟩
abbrev main_v29 : Ref sig .tc := ⟨.hbm, 91, rfl⟩
abbrev main_v30 : Ref sig .tc := ⟨.hbm, 92, rfl⟩
abbrev main_v31 : Ref sig .tc := ⟨.hbm, 93, rfl⟩
abbrev main_v32 : Ref sig .tc := ⟨.hbm, 94, rfl⟩
abbrev main_v33 : Ref sig .tc := ⟨.hbm, 95, rfl⟩
abbrev main_v34 : Ref sig .tc := ⟨.hbm, 96, rfl⟩
abbrev main_cst : Ref sig .tc := ⟨.hbm, 97, rfl⟩
abbrev main_v35 : Ref sig .tc := ⟨.hbm, 98, rfl⟩
abbrev main_v36 : Ref sig .tc := ⟨.hbm, 99, rfl⟩
abbrev main_cst_1 : Ref sig .tc := ⟨.hbm, 100, rfl⟩
abbrev main_v37 : Ref sig .tc := ⟨.hbm, 101, rfl⟩
abbrev main_v38 : Ref sig .tc := ⟨.hbm, 102, rfl⟩
abbrev main_v39 : Ref sig .tc := ⟨.hbm, 103, rfl⟩
abbrev main_cst_2 : Ref sig .tc := ⟨.hbm, 104, rfl⟩
abbrev main_v40 : Ref sig .tc := ⟨.hbm, 105, rfl⟩
abbrev main_v41 : Ref sig .tc := ⟨.hbm, 106, rfl⟩
abbrev main_cst_3 : Ref sig .tc := ⟨.hbm, 107, rfl⟩
abbrev main_v42 : Ref sig .tc := ⟨.hbm, 108, rfl⟩
abbrev main_v43 : Ref sig .tc := ⟨.hbm, 109, rfl⟩
abbrev main_v44 : Ref sig .tc := ⟨.hbm, 110, rfl⟩
abbrev main_v45 : Ref sig .tc := ⟨.hbm, 111, rfl⟩
abbrev main_v46 : Ref sig .tc := ⟨.hbm, 112, rfl⟩
abbrev main_v47 : Ref sig .tc := ⟨.hbm, 113, rfl⟩
abbrev main_v48 : Ref sig .tc := ⟨.hbm, 114, rfl⟩
abbrev main_v49 : Ref sig .tc := ⟨.hbm, 115, rfl⟩
abbrev main_v50 : Ref sig .tc := ⟨.hbm, 116, rfl⟩
abbrev main_v51 : Ref sig .tc := ⟨.hbm, 117, rfl⟩
abbrev main_v52 : Ref sig .tc := ⟨.hbm, 118, rfl⟩
abbrev main_v53 : Ref sig .tc := ⟨.hbm, 119, rfl⟩
abbrev main_v54 : Ref sig .tc := ⟨.hbm, 120, rfl⟩
abbrev main_v55 : Ref sig .tc := ⟨.hbm, 121, rfl⟩
abbrev main_v56 : Ref sig .tc := ⟨.hbm, 122, rfl⟩
abbrev main_v57 : Ref sig .tc := ⟨.hbm, 123, rfl⟩
abbrev main_v58 : Ref sig .tc := ⟨.hbm, 124, rfl⟩
abbrev main_v59 : Ref sig .tc := ⟨.hbm, 125, rfl⟩
abbrev main_v60 : Ref sig .tc := ⟨.hbm, 126, rfl⟩
abbrev main_v61 : Ref sig .tc := ⟨.hbm, 127, rfl⟩
abbrev main_v62 : Ref sig .tc := ⟨.hbm, 128, rfl⟩
abbrev main_v63 : Ref sig .tc := ⟨.hbm, 129, rfl⟩
abbrev main_v64 : Ref sig .tc := ⟨.hbm, 130, rfl⟩

abbrev nD : Nat := 1
abbrev τ : Topo := Topo.v7x

variable {F : FTy → Type} [FloatOps F]
-- ==== Proof.Transfer.lean ====
module

public import proofs.«01_k».proof.Proof.Gen.Kernel
public import proofs.«01_k».proof.Proof.Gen.KernelIdeal

/-! # The two prints of the kernel are one program

The kernel is printed twice, once to be read at bit patterns and once to be read at extended reals. No operation
was rewritten between the two, so they are the same program over any float instance: the same signature, the same
`@main` and the same body table. A theorem proved once about the second print is therefore a theorem about the
first. -/

@[expose] public section

set_option maxRecDepth 16384
set_option maxHeartbeats 2000000

open Idealize.ShloMosaic Idealize.SL.Sem

namespace Cert.Transfer

attribute [local instance] Cert.Kernel.Gen.facts Cert.KernelIdeal.Gen.facts

variable {F : FTy → Type} [FloatOps F]

/-- The two prints of `@main` are the same program. -/
theorem main_eq : Cert.Kernel.main (F := F) = Cert.KernelIdeal.main (F := F) := rfl

/-- The two prints' kernel bodies are the same, label by label. -/
theorem defs₀_eq : Cert.Kernel.defs₀ (F := F) = Cert.KernelIdeal.defs₀ (F := F) := by
  unfold Cert.Kernel.defs₀ Cert.KernelIdeal.defs₀
  congr 1
  funext ℓ
  fin_cases ℓ <;> rfl

/-- The two prints' body tables are the same. -/
theorem defs_eq : Cert.Kernel.defs (F := F) = Cert.KernelIdeal.defs (F := F) :=
  congrArg (Pipeline.defs (Cert.KernelIdeal.pcfgs (F := F))) defs₀_eq

end Cert.Transfer
-- ==== Proof.UserCall.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

/-! # The second call: the users' embeddings

At each of its 16 points the call multiplies the whole 4096×64 array of item embeddings with one 512-row block of
the user–item matrix and stores the two 32-row halves of the product. The contents `V` the call is entered with are
arbitrary here. -/

@[expose] public section

set_option maxRecDepth 16384

noncomputable section

namespace Cert.KernelIdeal.UserCall

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The contents of every buffer a core's TensorCore can name. -/
abbrev Contents (F : FTy → Type) : Type := (c : Dev nD) → (b : Ref sig .tc) → Buf (Elt F) ((c : Thread nD τ).loc b)

variable (V : Contents F)

/-- The block of window `w` at point `t`, read off its array at the entry contents. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The item embeddings, read whole. -/
abbrev rItems : Rect S4096x64 := Rect.unit (s := S4096x64) ![0, 0] S4096x64.size inb_S4096x64_S4096x64_0_0
/-- The user graph's block, read whole. -/
abbrev rUsers : Rect S512x4096 := Rect.unit (s := S512x4096) ![0, 0] S512x4096.size inb_S512x4096_S512x4096_0_0
/-- An output's block, written whole. -/
abbrev rOut : Rect S32x512 := Rect.unit (s := S32x512) ![0, 0] S32x512.size inb_S32x512_S32x512_0_0

/-- What the body stores into the first output's buffer: the upper half of the product. -/
def upper (x : Vec F S512x4096 .f32) (z : Vec F S4096x64 .f32) : Vec F S32x512 .f32 :=
  View.canon [⟨rOut, k1_pay2 (View.ld z rItems) (View.ld x rUsers)⟩]

/-- What the body stores into the second output's buffer: the lower half of the product. -/
def lower (x : Vec F S512x4096 .f32) (z : Vec F S4096x64 .f32) : Vec F S32x512 .f32 :=
  View.canon [⟨rOut, k1_pay3 (View.ld z rItems) (View.ld x rUsers)⟩]

/-- The one store into an output buffer covers it. -/
theorem covered (p : Vec F S32x512 .f32) (y : S32x512.Idx) :
    ∃ pc ∈ ([⟨rOut, p⟩] : List (View.Piece (Elt F) S32x512 .f32)), y ∈ pc.1.set :=
  View.cover_of_tiled [⟨rOut, p⟩] S32x512.size (by rfl) y

set_option maxHeartbeats 1000000 in
/-- The body on whole buffers: the inputs stay, the outputs end at the two halves of the product. -/
theorem body_triple (c : Dev nD) (E : Set ℕ) (i : grid1.Coords) (a₁ : Memref sig .tc .vmem S512x4096 .f32) (h₁ : a₁.IsWhole)
    (a₂ : Memref sig .tc .vmem S4096x64 .f32) (h₂ : a₂.IsWhole) (a₃ : Memref sig .tc .vmem S32x512 .f32) (h₃ : a₃.IsWhole)
    (a₄ : Memref sig .tc .vmem S32x512 .f32) (h₄ : a₄.IsWhole) (x : Vec F S512x4096 .f32) (z : Vec F S4096x64 .f32)
    (K : PUnit → sProp 𝕄) :
    iprop(owns (c : Thread nD τ) a₁ fullShare x ∗ owns (c : Thread nD τ) a₂ fullShare z ∗ (∃ d, owns (c : Thread nD τ) a₃ fullShare d) ∗ (∃ d, owns (c : Thread nD τ) a₄ fullShare d)
        ∗ (iprop(owns (c : Thread nD τ) a₁ fullShare x ∗ owns (c : Thread nD τ) a₂ fullShare z ∗ owns (c : Thread nD τ) a₃ fullShare (upper x z) ∗ owns (c : Thread nD τ) a₄ fullShare (lower x z)) -∗ K ⟨⟩))
      ⊢ wp frame (wpE (defs₀ (F := F)) Variants.none c none) E (cc1__user_body i a₁ h₁ a₂ h₂ a₃ h₃ a₄ h₄) K := by
  simp only [cc1__user_body_eq_skeleton]; unfold cc1__user_body_skel
  unfold owns
  iintro ⟨⟨%f, %hf, H₁⟩, ⟨%g, %hg, H₂⟩, ⟨%d, %p, -, H₃⟩, ⟨%e, %q, -, H₄⟩, Hk⟩
  subst hf hg
  sl_exec
  sl_step
  iapply Hk
  isplitl [H₁]; · iexists f; isplitr; · ipureintro; rfl
                  iexact H₁
  isplitl [H₂]; · iexists g; isplitr; · ipureintro; rfl
                  iexact H₂
  isplitl [H₃]
  · iexists _; isplitr; swap; · iexact H₃
    ipureintro; exact View.read_writes_eq_canon _ _ _ (covered _)
  iexists _; isplitr; swap; · iexact H₄
  ipureintro; exact View.read_writes_eq_canon _ _ _ (covered _)

/-- The call's proof data: the arrays as entered, every input buffer at its block after the body, the outputs at the
    two halves of the product; nothing is carried from point to point. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => upper (blk V c 0 t) (blk V c 1 t)
    | ⟨3, _⟩ => lower (blk V c 0 t) (blk V c 1 t)
  Φ _ := Pipeline.ΦA spec1 c
  q _ := fullShare
  owed _ := 0

/-- The arrays that the call is entered with are those of `V`. -/
theorem dat_A (c : Dev nD) (w : Fin cfg1.W) : (dat V c).A w = V c (Pipeline.arrRef spec1 w) := by dsimp only [dat]
/-- The user graph's buffer after a point holds the fetched block. -/
theorem after_users (c : Dev nD) (t : Fin cfg1.N) : (dat V c).after 0 t = blk V c 0 t := by dsimp only [dat]
/-- The item embeddings' buffer after a point holds them. -/
theorem after_items (c : Dev nD) (t : Fin cfg1.N) : (dat V c).after 1 t = blk V c 1 t := by dsimp only [dat]
/-- The first output's buffer after a point holds the upper half of the product. -/
theorem after_upper (c : Dev nD) (t : Fin cfg1.N) : (dat V c).after 2 t = upper (blk V c 0 t) (blk V c 1 t) := by dsimp only [dat]
/-- The second output's buffer after a point holds the lower half of the product. -/
theorem after_lower (c : Dev nD) (t : Fin cfg1.N) : (dat V c).after 3 t = lower (blk V c 0 t) (blk V c 1 t) := by dsimp only [dat]

/-- The users' buffer holds its block when the body starts. -/
theorem before_users (c : Dev nD) (t : Fin cfg1.N) (d) : (dat V c).before 0 t d = blk V c 0 t :=
  ((dat V c).before_in_eq_fetched 0 rfl (fun _ => rfl) (fun _ _ _ => rfl)
    (fun t => by rw [after_users]; unfold Dat.blockOf blk; rw [dat_A]; try rfl) t d).trans
    (by unfold Dat.fetched Dat.blockOf blk; rw [dat_A]; try rfl)
/-- The items' buffer holds the whole array when the body starts. -/
theorem before_items (c : Dev nD) (t : Fin cfg1.N) (d) : (dat V c).before 1 t d = blk V c 1 t :=
  ((dat V c).before_in_eq_fetched 1 rfl (fun _ => rfl) (fun _ _ _ => rfl)
    (fun t => by rw [after_items]; unfold Dat.blockOf blk; rw [dat_A]; try rfl) t d).trans
    (by unfold Dat.fetched Dat.blockOf blk; rw [dat_A]; try rfl)

/-- The body at any point takes the windows' buffers from what the pipeline hands it to what the proof data say. -/
theorem body_point (c : Dev nD) (t : Fin cfg1.N) :
    iprop((dat V c).Φ t.castSucc ∗ (dat V c).owesAt () t.castSucc
      ∗ (∃ d, owns (c : Thread nD τ) (st1_0 t) fullShare ((dat V c).before 0 t d))
      ∗ (∃ d, owns (c : Thread nD τ) (st1_1 t) fullShare ((dat V c).before 1 t d))
      ∗ (∃ d, owns (c : Thread nD τ) (st1_2 t) fullShare ((dat V c).before 2 t d))
      ∗ (∃ d, owns (c : Thread nD τ) (st1_3 t) fullShare ((dat V c).before 3 t d)))
    ⊢ wp frame (wpE (defs₀ (F := F)) Variants.none c none) Set.univ (bodyAt1 t) (fun _ =>
      iprop((dat V c).Φ t.succ ∗ (dat V c).owesAt () t.succ
        ∗ owns (c : Thread nD τ) (st1_0 t) fullShare ((dat V c).after 0 t)
        ∗ owns (c : Thread nD τ) (st1_1 t) fullShare ((dat V c).after 1 t)
        ∗ owns (c : Thread nD τ) (st1_2 t) fullShare ((dat V c).after 2 t)
        ∗ owns (c : Thread nD τ) (st1_3 t) fullShare ((dat V c).after 3 t))) := by
  unfold bodyAt1
  simp only [before_users, before_items, after_users, after_items, after_upper, after_lower]
  rw [show (dat V c).Φ t.succ = (dat V c).Φ t.castSucc from rfl,
    show (dat V c).owesAt () t.succ = (dat V c).owesAt () t.castSucc from rfl]
  iintro ⟨HΦ, Ho, ⟨%d0, H0⟩, ⟨%d1, H1⟩, ⟨%d2, H2⟩, ⟨%d3, H3⟩⟩
  iapply (body_triple c Set.univ (grid1.coords t) _ _ _ _ _ _ _ _ (blk V c 0 t) (blk V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the call. -/
theorem body_obligation (c : Dev nD) : BodyObligation (dat V c) (defs₀ (F := F)) Variants.none () Set.univ := fun t => by
  rw [bigSep_W1, bigSep_W1, show defs₀ (F := F) .tc cfg1.body (cfg1.bodyArgs t (cfg1.slots t)) = bodyAt1 t by
    unfold defs₀; rw [Defs.onTc_tc]]
  exact triple_restated (body_point V c t) rfl .rfl fun _ => .rfl

end Cert.KernelIdeal.UserCall

end
-- ==== Proof.FusedBody.lean ====
module

public import proofs.«01_k».proof.Proof.UserCall
public import Idealize.ShloMosaic.Lib.VecWindow

/-! # The first call's body, stage by stage

The first call walks 33 points in three stages and an end. Points 0–15 project 256 rows of each of the four feature
tables into scratch; points 16–23 multiply 512 rows of the two graph matrices with the projections, points 24–31 with
the first products; point 32 writes the results. For each stage the triple below says what the body changes, over any
buffers holding any contents. -/

@[expose] public section

set_option maxRecDepth 16384

noncomputable section

namespace Cert.KernelIdeal.FusedCall

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions and offsets, over the 33 points -/

/-- The first stage's condition holds at points 0–15. -/
theorem cond1_iff : ∀ t : Fin cfg0.N, k0_cond1 (grid0.coords t) = 1#1 ↔ t.val < 16 := by decide +kernel
/-- The second stage's condition holds at points 16–23. -/
theorem cond2_iff : ∀ t : Fin cfg0.N, k0_cond2 (grid0.coords t) = 1#1 ↔ 16 ≤ t.val ∧ t.val < 24 := by decide +kernel
/-- The third stage's condition holds at points 24–31. -/
theorem cond3_iff : ∀ t : Fin cfg0.N, k0_cond3 (grid0.coords t) = 1#1 ↔ 24 ≤ t.val ∧ t.val < 32 := by decide +kernel
/-- The end's condition holds at point 32. -/
theorem cond4_iff : ∀ t : Fin cfg0.N, k0_cond4 (grid0.coords t) = 1#1 ↔ t.val = 32 := by decide +kernel

/-- The rows the first stage stores at point `t` start at `256 t`. -/
theorem off1_eq : ∀ t : Fin cfg0.N, t.val < 16 → k0_off1 (grid0.coords t) = ![t.val * 256, 0] := by decide +kernel
/-- The rows the second stage stores at point `t` start at `512 (t − 16)`. -/
theorem off2_eq : ∀ t : Fin cfg0.N, 16 ≤ t.val → t.val < 24 → k0_off2 (grid0.coords t) = ![(t.val - 16) * 512, 0] := by decide +kernel
/-- The rows the third stage stores at point `t` start at `512 (t − 24)`. -/
theorem off3_eq : ∀ t : Fin cfg0.N, 24 ≤ t.val → t.val < 32 → k0_off3 (grid0.coords t) = ![(t.val - 24) * 512, 0] := by decide +kernel

/-- A 4096-row array with 256 rows from row `o` on replaced. -/
def put256 (x : Vec F S4096x32 .f32) (o : ℕ) (p : Vec F S256x32 .f32) : Vec F S4096x32 .f32 :=
  VecWindow.put (s := S4096x32) x ![o, 0] S256x32.size p
/-- A 4096-row array with 512 rows from row `o` on replaced. -/
def put512 (x : Vec F S4096x32 .f32) (o : ℕ) (p : Vec F S512x32 .f32) : Vec F S4096x32 .f32 :=
  VecWindow.put (s := S4096x32) x ![o, 0] S512x32.size p

/-- A load of a whole two-axis buffer reads what the buffer reads. -/
theorem load_whole {κ : Kind} {sp : Space} {d : Fin 2 → ℕ} (v : View sig κ sp ⟨2, d⟩ .f32) (f : v.ty.Contents (Elt F)) (inb : ∀ a, (![0, 0] : Fin 2 → ℕ) a + d a ≤ d a) :
    v.readAt (Elt F) (Rect.unit (s := ⟨2, d⟩) ![0, 0] d inb).toLoadRect f = v.read (Elt F) f :=
  View.readAt_full v f inb
/-- What a buffer reads after 256 rows are stored over it. -/
theorem read_put256 {κ : Kind} {sp : Space} (v : View sig κ sp S4096x32 .f32) (f : v.ty.Contents (Elt F)) {off : Fin 2 → ℕ} {o : ℕ} (h : off = ![o, 0])
    (inb : ∀ a, off a + S256x32.size a ≤ S4096x32.size a) (p : Vec F S256x32 .f32) :
    v.read (Elt F) (v.writes (Elt F) f [⟨Rect.unit (s := S4096x32) off S256x32.size inb, p⟩]) = put256 (v.read (Elt F) f) o p := by
  rw [View.read_writes_cons_put v f inb p [] h, View.writes_nil]; rfl
/-- What a buffer reads after 512 rows are stored over it. -/
theorem read_put512 {κ : Kind} {sp : Space} (v : View sig κ sp S4096x32 .f32) (f : v.ty.Contents (Elt F)) {off : Fin 2 → ℕ} {o : ℕ} (h : off = ![o, 0])
    (inb : ∀ a, off a + S512x32.size a ≤ S4096x32.size a) (p : Vec F S512x32 .f32) :
    v.read (Elt F) (v.writes (Elt F) f [⟨Rect.unit (s := S4096x32) off S512x32.size inb, p⟩]) = put512 (v.read (Elt F) f) o p := by
  rw [View.read_writes_cons_put v f inb p [] h, View.writes_nil]; rfl

/-! ## What the end writes -/

/-- The two halves of an output row of 8192 entries, and of the 64 columns of the embeddings. -/
abbrev rowL : Rect S1x8192 := Rect.unit (s := S1x8192) ![0, 0] S1x4096.size inb_S1x8192_S1x4096_0_0
/-- The right half of an output row. -/
abbrev rowR : Rect S1x8192 := Rect.unit (s := S1x8192) ![0, 4096] S1x4096.size inb_S1x8192_S1x4096_0_4096
/-- The left half of the embeddings' columns. -/
abbrev colL : Rect S4096x64 := Rect.unit (s := S4096x64) ![0, 0] S4096x32.size inb_S4096x64_S4096x32_0_0
/-- The right half of the embeddings' columns. -/
abbrev colR : Rect S4096x64 := Rect.unit (s := S4096x64) ![0, 32] S4096x32.size inb_S4096x64_S4096x32_0_32

/-- The item embeddings: the two second products side by side. -/
def embeddings (hi ht : Vec F S4096x32 .f32) : Vec F S4096x64 .f32 := View.canon [⟨colR, ht⟩, ⟨colL, hi⟩]
/-- The scores of the two second products. -/
def scores (hi ht : Vec F S4096x32 .f32) (w : Vec F S32x32 .f32) (b : Vec F S1x1 .f32) : Vec F S1x8192 .f32 :=
  View.canon [⟨rowR, k0_pay14 hi ht w b⟩, ⟨rowL, k0_pay13 hi ht w b⟩]
/-- The scores of the two plain projections. -/
def rawScores (hi ht ri rt : Vec F S4096x32 .f32) (w : Vec F S32x32 .f32) (b : Vec F S1x1 .f32) : Vec F S1x8192 .f32 :=
  View.canon [⟨rowR, k0_pay7 (k0_pay11 hi ht w) (k0_pay12 b) rt⟩, ⟨rowL, k0_pay15 hi ht w b ri⟩]

/-- The two column halves cover the 4096×64 array. -/
theorem cols_cover (p q : Vec F S4096x32 .f32) (y : S4096x64.Idx) :
    ∃ pc ∈ ([⟨colR, p⟩, ⟨colL, q⟩] : List (View.Piece (Elt F) S4096x64 .f32)), y ∈ pc.1.set :=
  View.cover_of_tiled [⟨colR, p⟩, ⟨colL, q⟩] S4096x32.size (by rfl) y
/-- The two halves cover the row. -/
theorem row_cover (p q : Vec F S1x4096 .f32) (y : S1x8192.Idx) :
    ∃ pc ∈ ([⟨rowR, p⟩, ⟨rowL, q⟩] : List (View.Piece (Elt F) S1x8192 .f32)), y ∈ pc.1.set :=
  View.cover_of_tiled [⟨rowR, p⟩, ⟨rowL, q⟩] S1x4096.size (by rfl) y

/-! ## The stages -/

section Stages

variable (c : Dev nD) (E : Set ℕ) (i : grid0.Coords)
  (a1 : Memref sig .tc .vmem S512x4096 .f32) (h1 : a1.IsWhole)
  (a2 : Memref sig .tc .vmem S512x4096 .f32) (h2 : a2.IsWhole)
  (a3 : Memref sig .tc .vmem S256x512 .f32) (h3 : a3.IsWhole)
  (a4 : Memref sig .tc .vmem S256x384 .f32) (h4 : a4.IsWhole)
  (a5 : Memref sig .tc .vmem S256x512 .f32) (h5 : a5.IsWhole)
  (a6 : Memref sig .tc .vmem S256x384 .f32) (h6 : a6.IsWhole)
  (a7 : Memref sig .tc .vmem S32x512 .f32) (h7 : a7.IsWhole)
  (a8 : Memref sig .tc .vmem S1x32 .f32) (h8 : a8.IsWhole)
  (a9 : Memref sig .tc .vmem S32x384 .f32) (h9 : a9.IsWhole)
  (a10 : Memref sig .tc .vmem S1x32 .f32) (h10 : a10.IsWhole)
  (a11 : Memref sig .tc .vmem S32x32 .f32) (h11 : a11.IsWhole)
  (a12 : Memref sig .tc .vmem S1x1 .f32) (h12 : a12.IsWhole)
  (a13 : Memref sig .tc .vmem S4096x64 .f32) (h13 : a13.IsWhole)
  (a14 : Memref sig .tc .vmem S1x8192 .f32) (h14 : a14.IsWhole)
  (a15 : Memref sig .tc .vmem S1x8192 .f32) (h15 : a15.IsWhole)
  (a16 : Memref sig .tc .vmem S4096x32 .f32) (h16 : a16.IsWhole)
  (a17 : Memref sig .tc .vmem S4096x32 .f32) (h17 : a17.IsWhole)
  (a18 : Memref sig .tc .vmem S4096x32 .f32) (h18 : a18.IsWhole)
  (a19 : Memref sig .tc .vmem S4096x32 .f32) (h19 : a19.IsWhole)
  (a20 : Memref sig .tc .vmem S4096x32 .f32) (h20 : a20.IsWhole)
  (a21 : Memref sig .tc .vmem S4096x32 .f32) (h21 : a21.IsWhole)
  (a22 : Memref sig .tc .vmem S4096x32 .f32) (h22 : a22.IsWhole)
  (a23 : Memref sig .tc .vmem S4096x32 .f32) (h23 : a23.IsWhole)

set_option maxHeartbeats 2000000 in
/-- The first stage: each projected scratch gets the 256 rows computed from the point's feature rows. -/
theorem stage1 (hc1 : k0_cond1 i = 1#1) (hc2 : ¬ k0_cond2 i = 1#1) (hc3 : ¬ k0_cond3 i = 1#1) (hc4 : ¬ k0_cond4 i = 1#1)
    (o : ℕ) (ho : k0_off1 i = ![o, 0])
    (x3 : Vec F S256x512 .f32) (x4 : Vec F S256x384 .f32) (x5 : Vec F S256x512 .f32) (x6 : Vec F S256x384 .f32) (x7 : Vec F S32x512 .f32) (x8 : Vec F S1x32 .f32) (x9 : Vec F S32x384 .f32) (x10 : Vec F S1x32 .f32)
    (s0 s1 s2 s3 : Vec F S4096x32 .f32) (K : PUnit → sProp 𝕄) :
    iprop(owns (c : Thread nD τ) a3 fullShare x3 ∗ owns (c : Thread nD τ) a4 fullShare x4 ∗ owns (c : Thread nD τ) a5 fullShare x5
        ∗ owns (c : Thread nD τ) a6 fullShare x6 ∗ owns (c : Thread nD τ) a7 fullShare x7 ∗ owns (c : Thread nD τ) a8 fullShare x8
        ∗ owns (c : Thread nD τ) a9 fullShare x9 ∗ owns (c : Thread nD τ) a10 fullShare x10 ∗ owns (c : Thread nD τ) a16 fullShare s0
        ∗ owns (c : Thread nD τ) a17 fullShare s1 ∗ owns (c : Thread nD τ) a18 fullShare s2 ∗ owns (c : Thread nD τ) a19 fullShare s3
        ∗ (iprop(owns (c : Thread nD τ) a3 fullShare x3 ∗ owns (c : Thread nD τ) a4 fullShare x4 ∗ owns (c : Thread nD τ) a5 fullShare x5
            ∗ owns (c : Thread nD τ) a6 fullShare x6 ∗ owns (c : Thread nD τ) a7 fullShare x7 ∗ owns (c : Thread nD τ) a8 fullShare x8
            ∗ owns (c : Thread nD τ) a9 fullShare x9 ∗ owns (c : Thread nD τ) a10 fullShare x10 ∗ owns (c : Thread nD τ) a16 fullShare (put256 s0 o (k0_pay8 x3 x7 x8))
            ∗ owns (c : Thread nD τ) a17 fullShare (put256 s1 o (k0_pay9 x4 x9 x10)) ∗ owns (c : Thread nD τ) a18 fullShare (put256 s2 o (k0_pay1 (k0_pay10 x5 x7 x8))) ∗ owns (c : Thread nD τ) a19 fullShare (put256 s3 o (k0_pay2 x6 x9 x10))) -∗ K ⟨⟩))
      ⊢ wp frame (wpE (defs₀ (F := F)) Variants.none c none) E (cc0__fused_body i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23) K := by
  simp only [cc0__fused_body_eq_skeleton]; unfold cc0__fused_body_skel
  unfold owns
  iintro ⟨⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f16, %e16, H16⟩, ⟨%f17, %e17, H17⟩, ⟨%f18, %e18, H18⟩, ⟨%f19, %e19, H19⟩, Hk⟩
  subst e3 e4 e5 e6 e7 e8 e9 e10 e16 e17 e18 e19
  sl_exec
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H16]
  · iexists _; isplitr; swap; · iexact H16
    ipureintro; rw [read_put256 _ _ ho]; simp only [load_whole]
  isplitl [H17]
  · iexists _; isplitr; swap; · iexact H17
    ipureintro; rw [read_put256 _ _ ho]; simp only [load_whole]
  isplitl [H18]
  · iexists _; isplitr; swap; · iexact H18
    ipureintro; unfold stage1.sl.r; rw [read_put256 _ _ ho]; simp only [load_whole]
  iexists _; isplitr; swap; · iexact H19
  ipureintro; rw [read_put256 _ _ ho]; simp only [load_whole]

set_option maxHeartbeats 2000000 in
/-- The second stage: each first product gets the 512 rows of the point's matrix block times the projections. -/
theorem stage2 (hc1 : ¬ k0_cond1 i = 1#1) (hc2 : k0_cond2 i = 1#1) (hc3 : ¬ k0_cond3 i = 1#1) (hc4 : ¬ k0_cond4 i = 1#1)
    (o : ℕ) (ho : k0_off2 i = ![o, 0])
    (x1 : Vec F S512x4096 .f32) (x2 : Vec F S512x4096 .f32)
    (s0 s1 s4 s5 : Vec F S4096x32 .f32) (K : PUnit → sProp 𝕄) :
    iprop(owns (c : Thread nD τ) a1 fullShare x1 ∗ owns (c : Thread nD τ) a2 fullShare x2 ∗ owns (c : Thread nD τ) a16 fullShare s0
        ∗ owns (c : Thread nD τ) a17 fullShare s1 ∗ owns (c : Thread nD τ) a20 fullShare s4 ∗ owns (c : Thread nD τ) a21 fullShare s5
        ∗ (iprop(owns (c : Thread nD τ) a1 fullShare x1 ∗ owns (c : Thread nD τ) a2 fullShare x2 ∗ owns (c : Thread nD τ) a16 fullShare s0
            ∗ owns (c : Thread nD τ) a17 fullShare s1 ∗ owns (c : Thread nD τ) a20 fullShare (put512 s4 o (k0_pay3 x1 s0)) ∗ owns (c : Thread nD τ) a21 fullShare (put512 s5 o (k0_pay4 x2 s1))) -∗ K ⟨⟩))
      ⊢ wp frame (wpE (defs₀ (F := F)) Variants.none c none) E (cc0__fused_body i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23) K := by
  simp only [cc0__fused_body_eq_skeleton]; unfold cc0__fused_body_skel
  unfold owns
  iintro ⟨⟨%f1, %e1, H1⟩, ⟨%f2, %e2, H2⟩, ⟨%f16, %e16, H16⟩, ⟨%f17, %e17, H17⟩, ⟨%f20, %e20, H20⟩, ⟨%f21, %e21, H21⟩, Hk⟩
  subst e1 e2 e16 e17 e20 e21
  sl_exec
  sl_step
  iapply Hk
  isplitl [H1]
  · iexists f1; isplitr; · ipureintro; rfl
    iexact H1
  isplitl [H2]
  · iexists f2; isplitr; · ipureintro; rfl
    iexact H2
  isplitl [H16]
  · iexists f16; isplitr; · ipureintro; rfl
    iexact H16
  isplitl [H17]
  · iexists f17; isplitr; · ipureintro; rfl
    iexact H17
  isplitl [H20]
  · iexists _; isplitr; swap; · iexact H20
    ipureintro; rw [read_put512 _ _ ho]; simp only [load_whole]
  iexists _; isplitr; swap; · iexact H21
  ipureintro; rw [read_put512 _ _ ho]; simp only [load_whole]

set_option maxHeartbeats 2000000 in
/-- The third stage: each second product gets the 512 rows of the point's matrix block times the first product. -/
theorem stage3 (hc1 : ¬ k0_cond1 i = 1#1) (hc2 : ¬ k0_cond2 i = 1#1) (hc3 : k0_cond3 i = 1#1) (hc4 : ¬ k0_cond4 i = 1#1)
    (o : ℕ) (ho : k0_off3 i = ![o, 0])
    (x1 : Vec F S512x4096 .f32) (x2 : Vec F S512x4096 .f32)
    (s4 s5 s6 s7 : Vec F S4096x32 .f32) (K : PUnit → sProp 𝕄) :
    iprop(owns (c : Thread nD τ) a1 fullShare x1 ∗ owns (c : Thread nD τ) a2 fullShare x2 ∗ owns (c : Thread nD τ) a20 fullShare s4
        ∗ owns (c : Thread nD τ) a21 fullShare s5 ∗ owns (c : Thread nD τ) a22 fullShare s6 ∗ owns (c : Thread nD τ) a23 fullShare s7
        ∗ (iprop(owns (c : Thread nD τ) a1 fullShare x1 ∗ owns (c : Thread nD τ) a2 fullShare x2 ∗ owns (c : Thread nD τ) a20 fullShare s4
            ∗ owns (c : Thread nD τ) a21 fullShare s5 ∗ owns (c : Thread nD τ) a22 fullShare (put512 s6 o (k0_pay5 x1 s4)) ∗ owns (c : Thread nD τ) a23 fullShare (put512 s7 o (k0_pay6 x2 s5))) -∗ K ⟨⟩))
      ⊢ wp frame (wpE (defs₀ (F := F)) Variants.none c none) E (cc0__fused_body i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23) K := by
  simp only [cc0__fused_body_eq_skeleton]; unfold cc0__fused_body_skel
  unfold owns
  iintro ⟨⟨%f1, %e1, H1⟩, ⟨%f2, %e2, H2⟩, ⟨%f20, %e20, H20⟩, ⟨%f21, %e21, H21⟩, ⟨%f22, %e22, H22⟩, ⟨%f23, %e23, H23⟩, Hk⟩
  subst e1 e2 e20 e21 e22 e23
  sl_exec
  sl_step
  iapply Hk
  isplitl [H1]
  · iexists f1; isplitr; · ipureintro; rfl
    iexact H1
  isplitl [H2]
  · iexists f2; isplitr; · ipureintro; rfl
    iexact H2
  isplitl [H20]
  · iexists f20; isplitr; · ipureintro; rfl
    iexact H20
  isplitl [H21]
  · iexists f21; isplitr; · ipureintro; rfl
    iexact H21
  isplitl [H22]
  · iexists _; isplitr; swap; · iexact H22
    ipureintro; rw [read_put512 _ _ ho]; simp only [load_whole]
  iexists _; isplitr; swap; · iexact H23
  ipureintro; rw [read_put512 _ _ ho]; simp only [load_whole]

end Stages

end Cert.KernelIdeal.FusedCall

end
-- ==== Proof.Panels.lean ====
module

public import proofs.«01_k».proof.Proof.FusedBody
public import Idealize.ShloMosaic.Lib.Pointwise.Index

/-! # Arrays filled block by block

A 4096-row array stored 256 or 512 rows at a time. `joined256 p` (`joined512 p`) is the array whose `n`-th block is
`p n`; `Upto k S T` says that `S` and `T` agree on the rows below `k`. Storing block `n` over an array that agrees with
the joined array below block `n` gives agreement below block `n + 1`. -/

@[expose] public section

set_option maxRecDepth 16384

noncomputable section

namespace Cert.KernelIdeal.FusedCall

open Cert.KernelIdeal.Gen
open Idealize.ShloMosaic Idealize.ShloMosaic.TcCoe

variable {F : FTy → Type} [FloatOps F]

/-- The array whose `n`-th 256 rows are `p n`. -/
def joined256 (p : ℕ → Vec F S256x32 .f32) : Vec F S4096x32 .f32 := fun y =>
  p ((y 0).val / 256) (ix2 (n0 := 256) (n1 := 32) ⟨(y 0).val % 256, Nat.mod_lt _ (by decide)⟩ (y 1))
/-- The array whose `n`-th 512 rows are `p n`. -/
def joined512 (p : ℕ → Vec F S512x32 .f32) : Vec F S4096x32 .f32 := fun y =>
  p ((y 0).val / 512) (ix2 (n0 := 512) (n1 := 32) ⟨(y 0).val % 512, Nat.mod_lt _ (by decide)⟩ (y 1))

/-- Agreement on the rows below `k`. -/
def Upto (k : ℕ) (S T : Vec F S4096x32 .f32) : Prop := ∀ y : S4096x32.Idx, (y 0).val < k → S y = T y

/-- Any two arrays agree on the rows below zero. -/
theorem Upto.zero (S T : Vec F S4096x32 .f32) {k : ℕ} (h : k = 0) : Upto k S T := fun y hy => absurd hy (by omega)

/-- Agreement on all 4096 rows is equality. -/
theorem Upto.eq {k : ℕ} {S T : Vec F S4096x32 .f32} (h : Upto k S T) (hk : 4096 ≤ k) : S = T :=
  funext fun y => h y (Nat.lt_of_lt_of_le (y 0).isLt hk)

/-- Equal arrays agree on any rows. -/
theorem Upto.rfl' {k : ℕ} {S T : Vec F S4096x32 .f32} (h : S = T) : Upto k S T := fun y _ => congrFun h y

/-- Storing the next 256 rows extends the agreement by them. -/
theorem Upto.put256 {p : ℕ → Vec F S256x32 .f32} {S : Vec F S4096x32 .f32} {n : ℕ} (h : Upto (256 * n) S (joined256 p)) :
    Upto (256 * (n + 1)) (put256 S (n * 256) (p n)) (joined256 p) := by
  intro y hy
  unfold FusedCall.put256 VecWindow.put
  split
  · rename_i hw
    have h0 := hw 0
    have e0 : (![n * 256, 0] : Fin 2 → ℕ) 0 = n * 256 := rfl
    have e1 : S256x32.size 0 = 256 := rfl
    have e2 : (![n * 256, 0] : Fin 2 → ℕ) 0 ≤ (y 0).val := h0.1
    have hn : (y 0).val / 256 = n := by omega
    unfold joined256
    rw [hn]
    refine congrArg (p n) (funext fun a => Fin.ext ?_)
    match a with
    | ⟨0, _⟩ => show (y 0).val - n * 256 = (y 0).val % 256; omega
    | ⟨1, _⟩ => show (y 1).val - 0 = (y 1).val; omega
  · rename_i hw
    refine h y (Nat.lt_of_not_le fun hle => hw (Rect.unit_rows_mem (W := 256) y rfl rfl ?_))
    omega

/-- Storing the next 512 rows extends the agreement by them. -/
theorem Upto.put512 {p : ℕ → Vec F S512x32 .f32} {S : Vec F S4096x32 .f32} {n : ℕ} (h : Upto (512 * n) S (joined512 p)) :
    Upto (512 * (n + 1)) (put512 S (n * 512) (p n)) (joined512 p) := by
  intro y hy
  unfold FusedCall.put512 VecWindow.put
  split
  · rename_i hw
    have h0 := hw 0
    have e0 : (![n * 512, 0] : Fin 2 → ℕ) 0 = n * 512 := rfl
    have e1 : S512x32.size 0 = 512 := rfl
    have e2 : (![n * 512, 0] : Fin 2 → ℕ) 0 ≤ (y 0).val := h0.1
    have hn : (y 0).val / 512 = n := by omega
    unfold joined512
    rw [hn]
    refine congrArg (p n) (funext fun a => Fin.ext ?_)
    match a with
    | ⟨0, _⟩ => show (y 0).val - n * 512 = (y 0).val % 512; omega
    | ⟨1, _⟩ => show (y 1).val - 0 = (y 1).val; omega
  · rename_i hw
    refine h y (Nat.lt_of_not_le fun hle => hw (Rect.unit_rows_mem (W := 512) y rfl rfl ?_))
    omega

end Cert.KernelIdeal.FusedCall

end
-- ==== Proof.FusedEnd.lean ====
module

public import proofs.«01_k».proof.Proof.FusedBody

/-! # The first call's last point -/

@[expose] public section

set_option maxRecDepth 16384

noncomputable section

namespace Cert.KernelIdeal.FusedCall

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section End

variable (c : Dev nD) (E : Set ℕ) (i : grid0.Coords)
  (a1 : Memref sig .tc .vmem S512x4096 .f32) (h1 : a1.IsWhole)
  (a2 : Memref sig .tc .vmem S512x4096 .f32) (h2 : a2.IsWhole)
  (a3 : Memref sig .tc .vmem S256x512 .f32) (h3 : a3.IsWhole)
  (a4 : Memref sig .tc .vmem S256x384 .f32) (h4 : a4.IsWhole)
  (a5 : Memref sig .tc .vmem S256x512 .f32) (h5 : a5.IsWhole)
  (a6 : Memref sig .tc .vmem S256x384 .f32) (h6 : a6.IsWhole)
  (a7 : Memref sig .tc .vmem S32x512 .f32) (h7 : a7.IsWhole)
  (a8 : Memref sig .tc .vmem S1x32 .f32) (h8 : a8.IsWhole)
  (a9 : Memref sig .tc .vmem S32x384 .f32) (h9 : a9.IsWhole)
  (a10 : Memref sig .tc .vmem S1x32 .f32) (h10 : a10.IsWhole)
  (a11 : Memref sig .tc .vmem S32x32 .f32) (h11 : a11.IsWhole)
  (a12 : Memref sig .tc .vmem S1x1 .f32) (h12 : a12.IsWhole)
  (a13 : Memref sig .tc .vmem S4096x64 .f32) (h13 : a13.IsWhole)
  (a14 : Memref sig .tc .vmem S1x8192 .f32) (h14 : a14.IsWhole)
  (a15 : Memref sig .tc .vmem S1x8192 .f32) (h15 : a15.IsWhole)
  (a16 : Memref sig .tc .vmem S4096x32 .f32) (h16 : a16.IsWhole)
  (a17 : Memref sig .tc .vmem S4096x32 .f32) (h17 : a17.IsWhole)
  (a18 : Memref sig .tc .vmem S4096x32 .f32) (h18 : a18.IsWhole)
  (a19 : Memref sig .tc .vmem S4096x32 .f32) (h19 : a19.IsWhole)
  (a20 : Memref sig .tc .vmem S4096x32 .f32) (h20 : a20.IsWhole)
  (a21 : Memref sig .tc .vmem S4096x32 .f32) (h21 : a21.IsWhole)
  (a22 : Memref sig .tc .vmem S4096x32 .f32) (h22 : a22.IsWhole)
  (a23 : Memref sig .tc .vmem S4096x32 .f32) (h23 : a23.IsWhole)

set_option maxHeartbeats 2000000 in
/-- The end: the embeddings and the two rows of scores, from the finished scratch arrays. -/
theorem stage4 (hc1 : ¬ k0_cond1 i = 1#1) (hc2 : ¬ k0_cond2 i = 1#1) (hc3 : ¬ k0_cond3 i = 1#1) (hc4 : k0_cond4 i = 1#1)
    (x11 : Vec F S32x32 .f32) (x12 : Vec F S1x1 .f32)
    (s2 s3 s6 s7 : Vec F S4096x32 .f32) (K : PUnit → sProp 𝕄) :
    iprop(owns (c : Thread nD τ) a11 fullShare x11 ∗ owns (c : Thread nD τ) a12 fullShare x12 ∗ owns (c : Thread nD τ) a18 fullShare s2
        ∗ owns (c : Thread nD τ) a19 fullShare s3 ∗ owns (c : Thread nD τ) a22 fullShare s6 ∗ owns (c : Thread nD τ) a23 fullShare s7
        ∗ (∃ d, owns (c : Thread nD τ) a13 fullShare d) ∗ (∃ d, owns (c : Thread nD τ) a14 fullShare d) ∗ (∃ d, owns (c : Thread nD τ) a15 fullShare d)
        ∗ (iprop(owns (c : Thread nD τ) a11 fullShare x11 ∗ owns (c : Thread nD τ) a12 fullShare x12 ∗ owns (c : Thread nD τ) a18 fullShare s2
            ∗ owns (c : Thread nD τ) a19 fullShare s3 ∗ owns (c : Thread nD τ) a22 fullShare s6 ∗ owns (c : Thread nD τ) a23 fullShare s7
            ∗ owns (c : Thread nD τ) a13 fullShare (embeddings s6 s7) ∗ owns (c : Thread nD τ) a14 fullShare (scores s6 s7 x11 x12) ∗ owns (c : Thread nD τ) a15 fullShare (rawScores s6 s7 s2 s3 x11 x12)) -∗ K ⟨⟩))
      ⊢ wp frame (wpE (defs₀ (F := F)) Variants.none c none) E (cc0__fused_body i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23) K := by
  simp only [cc0__fused_body_eq_skeleton]; unfold cc0__fused_body_skel
  unfold owns
  iintro ⟨⟨%f11, %e11, H11⟩, ⟨%f12, %e12, H12⟩, ⟨%f18, %e18, H18⟩, ⟨%f19, %e19, H19⟩, ⟨%f22, %e22, H22⟩, ⟨%f23, %e23, H23⟩, ⟨%d13, %f13, -, H13⟩, ⟨%d14, %f14, -, H14⟩, ⟨%d15, %f15, -, H15⟩, Hk⟩
  subst e11 e12 e18 e19 e22 e23
  sl_exec
  sl_step
  iapply Hk
  isplitl [H11]
  · iexists f11; isplitr; · ipureintro; rfl
    iexact H11
  isplitl [H12]
  · iexists f12; isplitr; · ipureintro; rfl
    iexact H12
  isplitl [H18]
  · iexists f18; isplitr; · ipureintro; rfl
    iexact H18
  isplitl [H19]
  · iexists f19; isplitr; · ipureintro; rfl
    iexact H19
  isplitl [H22]
  · iexists f22; isplitr; · ipureintro; rfl
    iexact H22
  isplitl [H23]
  · iexists f23; isplitr; · ipureintro; rfl
    iexact H23
  isplitl [H13]
  · iexists _; isplitr; swap; · iexact H13
    ipureintro; unfold embeddings; simp only [load_whole]
    exact View.read_writes_eq_canon _ _ _ (cols_cover _ _)
  isplitl [H14]
  · iexists _; isplitr; swap; · iexact H14
    ipureintro; unfold scores; simp only [load_whole]
    exact View.read_writes_eq_canon _ _ _ (row_cover _ _)
  iexists _; isplitr; swap; · iexact H15
  ipureintro; unfold rawScores stage4.sl.r stage4.sl.r_1; simp only [load_whole]
  exact View.read_writes_eq_canon _ _ _ (row_cover _ _)

end End

end Cert.KernelIdeal.FusedCall

end
-- ==== Proof.FusedCall.lean ====
module

public import proofs.«01_k».proof.Proof.Panels
public import proofs.«01_k».proof.Proof.FusedEnd

/-! # The first call: what its 33 points leave

The contents `V` the call is entered with are arbitrary. The scratch arrays are filled block by block; the invariant
before point `n` says how far. After the last point the three outputs hold the item embeddings and the two rows of
scores. -/

@[expose] public section

set_option maxRecDepth 16384

noncomputable section

namespace Cert.KernelIdeal.FusedCall

open Cert.KernelIdeal.Gen
open Cert.KernelIdeal.UserCall (Contents)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Contents F) (c : Dev nD)

/-- The block of window `w` at point `t`, read off its array at the entry contents. -/
def blk (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Point number `n`. -/
def pt (n : ℕ) : Fin cfg0.N := ⟨n % 33, Nat.lt_of_lt_of_eq (Nat.mod_lt _ (by decide)) N_0.symm⟩

/-- The call has 33 points. -/
theorem lt33 (t : Fin cfg0.N) : t.val < 33 := Nat.lt_of_lt_of_eq t.isLt N_0

/-- The point whose number is that of `t` is `t`. -/
theorem pt_val (t : Fin cfg0.N) {n : ℕ} (h : n = t.val) : pt n = t :=
  h.symm ▸ Fin.ext (Nat.mod_eq_of_lt (lt33 t))

/-! ## The scratch arrays when finished -/

/-- The image projection: features times weights plus bias, in 16 blocks of rows. -/
def projI : Vec F S4096x32 .f32 := joined256 fun n => k0_pay8 (blk V c 2 (pt n)) (blk V c 6 (pt n)) (blk V c 7 (pt n))
/-- The text projection. -/
def projT : Vec F S4096x32 .f32 := joined256 fun n => k0_pay9 (blk V c 3 (pt n)) (blk V c 8 (pt n)) (blk V c 9 (pt n))
/-- The projection of the raw image table. -/
def rawI : Vec F S4096x32 .f32 := joined256 fun n => k0_pay1 (k0_pay10 (blk V c 4 (pt n)) (blk V c 6 (pt n)) (blk V c 7 (pt n)))
/-- The projection of the raw text table. -/
def rawT : Vec F S4096x32 .f32 := joined256 fun n => k0_pay2 (blk V c 5 (pt n)) (blk V c 8 (pt n)) (blk V c 9 (pt n))
/-- The image graph matrix times the image projection, in 8 blocks of rows. -/
def onceI : Vec F S4096x32 .f32 := joined512 fun n => k0_pay3 (blk V c 0 (pt (16 + n))) (projI V c)
/-- The text graph matrix times the text projection. -/
def onceT : Vec F S4096x32 .f32 := joined512 fun n => k0_pay4 (blk V c 1 (pt (16 + n))) (projT V c)
/-- The image graph matrix times the first product. -/
def twiceI : Vec F S4096x32 .f32 := joined512 fun n => k0_pay5 (blk V c 0 (pt (24 + n))) (onceI V c)
/-- The text graph matrix times the first product. -/
def twiceT : Vec F S4096x32 .f32 := joined512 fun n => k0_pay6 (blk V c 1 (pt (24 + n))) (onceT V c)

/-- How far the eight scratch arrays are filled before point `n`. -/
structure Inv (n : ℕ) (S0 S1 S2 S3 S4 S5 S6 S7 : Vec F S4096x32 .f32) : Prop where
  projI : Upto (256 * n) S0 (projI V c)
  projT : Upto (256 * n) S1 (projT V c)
  rawI : Upto (256 * n) S2 (rawI V c)
  rawT : Upto (256 * n) S3 (rawT V c)
  onceI : Upto (512 * (n - 16)) S4 (onceI V c)
  onceT : Upto (512 * (n - 16)) S5 (onceT V c)
  twiceI : Upto (512 * (n - 24)) S6 (twiceI V c)
  twiceT : Upto (512 * (n - 24)) S7 (twiceT V c)

section Steps

variable {V c} {S0 S1 S2 S3 S4 S5 S6 S7 : Vec F S4096x32 .f32}

/-- Before the first point nothing is filled. -/
theorem Inv.start : Inv V c 0 S0 S1 S2 S3 S4 S5 S6 S7 :=
  ⟨.zero _ _ rfl, .zero _ _ rfl, .zero _ _ rfl, .zero _ _ rfl, .zero _ _ rfl, .zero _ _ rfl, .zero _ _ rfl, .zero _ _ rfl⟩

/-- A point of the first stage. -/
theorem Inv.step1 {t : Fin cfg0.N} (h : Inv V c t.val S0 S1 S2 S3 S4 S5 S6 S7) (ht : t.val < 16) :
    Inv V c (t.val + 1)
      (FusedCall.put256 S0 (t.val * 256) (k0_pay8 (blk V c 2 t) (blk V c 6 t) (blk V c 7 t)))
      (FusedCall.put256 S1 (t.val * 256) (k0_pay9 (blk V c 3 t) (blk V c 8 t) (blk V c 9 t)))
      (FusedCall.put256 S2 (t.val * 256) (k0_pay1 (k0_pay10 (blk V c 4 t) (blk V c 6 t) (blk V c 7 t))))
      (FusedCall.put256 S3 (t.val * 256) (k0_pay2 (blk V c 5 t) (blk V c 8 t) (blk V c 9 t))) S4 S5 S6 S7 where
  projI := by have := h.projI.put256; rw [pt_val t rfl] at this; exact this
  projT := by have := h.projT.put256; rw [pt_val t rfl] at this; exact this
  rawI := by have := h.rawI.put256; rw [pt_val t rfl] at this; exact this
  rawT := by have := h.rawT.put256; rw [pt_val t rfl] at this; exact this
  onceI := .zero _ _ (by omega)
  onceT := .zero _ _ (by omega)
  twiceI := .zero _ _ (by omega)
  twiceT := .zero _ _ (by omega)

/-- A point of the second stage. -/
theorem Inv.step2 {t : Fin cfg0.N} (h : Inv V c t.val S0 S1 S2 S3 S4 S5 S6 S7) (h1 : 16 ≤ t.val) (h2 : t.val < 24) :
    Inv V c (t.val + 1) S0 S1 S2 S3
      (FusedCall.put512 S4 ((t.val - 16) * 512) (k0_pay3 (blk V c 0 t) S0))
      (FusedCall.put512 S5 ((t.val - 16) * 512) (k0_pay4 (blk V c 1 t) S1)) S6 S7 where
  projI := .rfl' (h.projI.eq (by omega))
  projT := .rfl' (h.projT.eq (by omega))
  rawI := .rfl' (h.rawI.eq (by omega))
  rawT := .rfl' (h.rawT.eq (by omega))
  onceI := by
    rw [h.projI.eq (by omega)]
    have := h.onceI.put512
    rw [pt_val t (by omega), show t.val - 16 + 1 = t.val + 1 - 16 by omega] at this; exact this
  onceT := by
    rw [h.projT.eq (by omega)]
    have := h.onceT.put512
    rw [pt_val t (by omega), show t.val - 16 + 1 = t.val + 1 - 16 by omega] at this; exact this
  twiceI := .zero _ _ (by omega)
  twiceT := .zero _ _ (by omega)

/-- A point of the third stage. -/
theorem Inv.step3 {t : Fin cfg0.N} (h : Inv V c t.val S0 S1 S2 S3 S4 S5 S6 S7) (h1 : 24 ≤ t.val) (h2 : t.val < 32) :
    Inv V c (t.val + 1) S0 S1 S2 S3 S4 S5
      (FusedCall.put512 S6 ((t.val - 24) * 512) (k0_pay5 (blk V c 0 t) S4))
      (FusedCall.put512 S7 ((t.val - 24) * 512) (k0_pay6 (blk V c 1 t) S5)) where
  projI := .rfl' (h.projI.eq (by omega))
  projT := .rfl' (h.projT.eq (by omega))
  rawI := .rfl' (h.rawI.eq (by omega))
  rawT := .rfl' (h.rawT.eq (by omega))
  onceI := .rfl' (h.onceI.eq (by omega))
  onceT := .rfl' (h.onceT.eq (by omega))
  twiceI := by
    rw [h.onceI.eq (by omega)]
    have := h.twiceI.put512
    rw [pt_val t (by omega), show t.val - 24 + 1 = t.val + 1 - 24 by omega] at this; exact this
  twiceT := by
    rw [h.onceT.eq (by omega)]
    have := h.twiceT.put512
    rw [pt_val t (by omega), show t.val - 24 + 1 = t.val + 1 - 24 by omega] at this; exact this

/-- Past the third stage the filling does not move. -/
theorem Inv.step4 {t : Fin cfg0.N} (h : Inv V c t.val S0 S1 S2 S3 S4 S5 S6 S7) (h1 : t.val = 32) :
    Inv V c (t.val + 1) S0 S1 S2 S3 S4 S5 S6 S7 where
  projI := .rfl' (h.projI.eq (by omega))
  projT := .rfl' (h.projT.eq (by omega))
  rawI := .rfl' (h.rawI.eq (by omega))
  rawT := .rfl' (h.rawT.eq (by omega))
  onceI := .rfl' (h.onceI.eq (by omega))
  onceT := .rfl' (h.onceT.eq (by omega))
  twiceI := .rfl' (h.twiceI.eq (by omega))
  twiceT := .rfl' (h.twiceT.eq (by omega))

end Steps

/-! ## The proof data -/

/-- The scoped buffers of the other call, untouched here. -/
def others : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- What is carried from point to point: the scratch arrays filled so far, the other call's buffers, the generator's
    register. -/
def carried (n : ℕ) : sProp 𝕄 :=
  iprop(∃ S0 S1 S2 S3 S4 S5 S6 S7 : Vec F S4096x32 .f32, ⌜Inv V c n S0 S1 S2 S3 S4 S5 S6 S7⌝
    ∗ owns (c : Thread nD τ) (Memref.whole cc0_scratch0) fullShare S0 ∗ owns (c : Thread nD τ) (Memref.whole cc0_scratch1) fullShare S1 ∗ owns (c : Thread nD τ) (Memref.whole cc0_scratch2) fullShare S2 ∗ owns (c : Thread nD τ) (Memref.whole cc0_scratch3) fullShare S3 ∗ owns (c : Thread nD τ) (Memref.whole cc0_scratch4) fullShare S4 ∗ owns (c : Thread nD τ) (Memref.whole cc0_scratch5) fullShare S5 ∗ owns (c : Thread nD τ) (Memref.whole cc0_scratch6) fullShare S6 ∗ owns (c : Thread nD τ) (Memref.whole cc0_scratch7) fullShare S7
    ∗ others (F := F) c ∗ ∃ r, prngReg c r)

/-- The call's proof data. -/
def dat : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => blk V c 6 t
    | ⟨7, _⟩ => blk V c 7 t
    | ⟨8, _⟩ => blk V c 8 t
    | ⟨9, _⟩ => blk V c 9 t
    | ⟨10, _⟩ => blk V c 10 t
    | ⟨11, _⟩ => blk V c 11 t
    | ⟨12, _⟩ => embeddings (twiceI V c) (twiceT V c)
    | ⟨13, _⟩ => scores (twiceI V c) (twiceT V c) (blk V c 10 t) (blk V c 11 t)
    | ⟨14, _⟩ => rawScores (twiceI V c) (twiceT V c) (rawI V c) (rawT V c) (blk V c 10 t) (blk V c 11 t)
  Φ t := carried V c t.val
  q _ := fullShare
  owed _ := 0

/-- The arrays that the call is entered with are those of `V`. -/
theorem dat_A (w : Fin cfg0.W) : (dat V c).A w = V c (Pipeline.arrRef spec0 w) := by dsimp only [dat]
/-- Input 0's buffer after a point holds the block that was fetched into it. -/
theorem after_0 (t : Fin cfg0.N) : (dat V c).after 0 t = blk V c 0 t := by dsimp only [dat]
/-- Input 1's buffer after a point holds the block that was fetched into it. -/
theorem after_1 (t : Fin cfg0.N) : (dat V c).after 1 t = blk V c 1 t := by dsimp only [dat]
/-- Input 2's buffer after a point holds the block that was fetched into it. -/
theorem after_2 (t : Fin cfg0.N) : (dat V c).after 2 t = blk V c 2 t := by dsimp only [dat]
/-- Input 3's buffer after a point holds the block that was fetched into it. -/
theorem after_3 (t : Fin cfg0.N) : (dat V c).after 3 t = blk V c 3 t := by dsimp only [dat]
/-- Input 4's buffer after a point holds the block that was fetched into it. -/
theorem after_4 (t : Fin cfg0.N) : (dat V c).after 4 t = blk V c 4 t := by dsimp only [dat]
/-- Input 5's buffer after a point holds the block that was fetched into it. -/
theorem after_5 (t : Fin cfg0.N) : (dat V c).after 5 t = blk V c 5 t := by dsimp only [dat]
/-- Input 6's buffer after a point holds the block that was fetched into it. -/
theorem after_6 (t : Fin cfg0.N) : (dat V c).after 6 t = blk V c 6 t := by dsimp only [dat]
/-- Input 7's buffer after a point holds the block that was fetched into it. -/
theorem after_7 (t : Fin cfg0.N) : (dat V c).after 7 t = blk V c 7 t := by dsimp only [dat]
/-- Input 8's buffer after a point holds the block that was fetched into it. -/
theorem after_8 (t : Fin cfg0.N) : (dat V c).after 8 t = blk V c 8 t := by dsimp only [dat]
/-- Input 9's buffer after a point holds the block that was fetched into it. -/
theorem after_9 (t : Fin cfg0.N) : (dat V c).after 9 t = blk V c 9 t := by dsimp only [dat]
/-- Input 10's buffer after a point holds the block that was fetched into it. -/
theorem after_10 (t : Fin cfg0.N) : (dat V c).after 10 t = blk V c 10 t := by dsimp only [dat]
/-- Input 11's buffer after a point holds the block that was fetched into it. -/
theorem after_11 (t : Fin cfg0.N) : (dat V c).after 11 t = blk V c 11 t := by dsimp only [dat]
/-- The first output after its point: the two second products side by side. -/
theorem after_embeddings (t : Fin cfg0.N) : (dat V c).after 12 t = embeddings (twiceI V c) (twiceT V c) := by dsimp only [dat]
/-- The second output after its point: the scores of the propagated features. -/
theorem after_scores (t : Fin cfg0.N) :
    (dat V c).after 13 t = scores (twiceI V c) (twiceT V c) (blk V c 10 t) (blk V c 11 t) := by dsimp only [dat]
/-- The third output after its point: the scores of the raw features. -/
theorem after_rawScores (t : Fin cfg0.N) :
    (dat V c).after 14 t = rawScores (twiceI V c) (twiceT V c) (rawI V c) (rawT V c) (blk V c 10 t) (blk V c 11 t) := by dsimp only [dat]

/-- An input's buffer holds its block when the body starts, if the body leaves it there. -/
theorem before_of (w : Fin cfg0.W) (hw : (cfg0.win w).isOut = false) (hl : ∀ i, cfg0.idle w i = false)
    (hclip : ∀ t t' : Fin cfg0.N, (cfg0.win w).index t = (cfg0.win w).index t' →
      (cfg0.win w).clip (cfg0.grid.coords t) = (cfg0.win w).clip (cfg0.grid.coords t'))
    (hk : ∀ t, (cfg0.win w).cut (cfg0.grid.coords t) ((dat V c).after w t) = (dat V c).blockOf w t)
    (t : Fin cfg0.N) (d) : (dat V c).before w t d = (dat V c).fetched w t d :=
  (dat V c).before_in_eq_fetched w hw hl hclip hk t d
/-- Input 0's buffer before the body runs holds the point's block. -/
theorem before_0 (t : Fin cfg0.N) (d) : (dat V c).before 0 t d = blk V c 0 t :=
  (before_of V c 0 rfl (fun _ => rfl) (fun _ _ _ => rfl) (fun t => by rw [after_0]; unfold Dat.blockOf blk; rw [dat_A]; try rfl) t d).trans
    (by unfold Dat.fetched Dat.blockOf blk; rw [dat_A]; try rfl)
/-- Input 1's buffer before the body runs holds the point's block. -/
theorem before_1 (t : Fin cfg0.N) (d) : (dat V c).before 1 t d = blk V c 1 t :=
  (before_of V c 1 rfl (fun _ => rfl) (fun _ _ _ => rfl) (fun t => by rw [after_1]; unfold Dat.blockOf blk; rw [dat_A]; try rfl) t d).trans
    (by unfold Dat.fetched Dat.blockOf blk; rw [dat_A]; try rfl)
/-- Input 2's buffer before the body runs holds the point's block. -/
theorem before_2 (t : Fin cfg0.N) (d) : (dat V c).before 2 t d = blk V c 2 t :=
  (before_of V c 2 rfl (fun _ => rfl) (fun _ _ _ => rfl) (fun t => by rw [after_2]; unfold Dat.blockOf blk; rw [dat_A]; try rfl) t d).trans
    (by unfold Dat.fetched Dat.blockOf blk; rw [dat_A]; try rfl)
/-- Input 3's buffer before the body runs holds the point's block. -/
theorem before_3 (t : Fin cfg0.N) (d) : (dat V c).before 3 t d = blk V c 3 t :=
  (before_of V c 3 rfl (fun _ => rfl) (fun _ _ _ => rfl) (fun t => by rw [after_3]; unfold Dat.blockOf blk; rw [dat_A]; try rfl) t d).trans
    (by unfold Dat.fetched Dat.blockOf blk; rw [dat_A]; try rfl)
/-- Input 4's buffer before the body runs holds the point's block. -/
theorem before_4 (t : Fin cfg0.N) (d) : (dat V c).before 4 t d = blk V c 4 t :=
  (before_of V c 4 rfl (fun _ => rfl) (fun _ _ _ => rfl) (fun t => by rw [after_4]; unfold Dat.blockOf blk; rw [dat_A]; try rfl) t d).trans
    (by unfold Dat.fetched Dat.blockOf blk; rw [dat_A]; try rfl)
/-- Input 5's buffer before the body runs holds the point's block. -/
theorem before_5 (t : Fin cfg0.N) (d) : (dat V c).before 5 t d = blk V c 5 t :=
  (before_of V c 5 rfl (fun _ => rfl) (fun _ _ _ => rfl) (fun t => by rw [after_5]; unfold Dat.blockOf blk; rw [dat_A]; try rfl) t d).trans
    (by unfold Dat.fetched Dat.blockOf blk; rw [dat_A]; try rfl)
/-- Input 6's buffer before the body runs holds the point's block. -/
theorem before_6 (t : Fin cfg0.N) (d) : (dat V c).before 6 t d = blk V c 6 t :=
  (before_of V c 6 rfl (fun _ => rfl) (fun _ _ _ => rfl) (fun t => by rw [after_6]; unfold Dat.blockOf blk; rw [dat_A]; try rfl) t d).trans
    (by unfold Dat.fetched Dat.blockOf blk; rw [dat_A]; try rfl)
/-- Input 7's buffer before the body runs holds the point's block. -/
theorem before_7 (t : Fin cfg0.N) (d) : (dat V c).before 7 t d = blk V c 7 t :=
  (before_of V c 7 rfl (fun _ => rfl) (fun _ _ _ => rfl) (fun t => by rw [after_7]; unfold Dat.blockOf blk; rw [dat_A]; try rfl) t d).trans
    (by unfold Dat.fetched Dat.blockOf blk; rw [dat_A]; try rfl)
/-- Input 8's buffer before the body runs holds the point's block. -/
theorem before_8 (t : Fin cfg0.N) (d) : (dat V c).before 8 t d = blk V c 8 t :=
  (before_of V c 8 rfl (fun _ => rfl) (fun _ _ _ => rfl) (fun t => by rw [after_8]; unfold Dat.blockOf blk; rw [dat_A]; try rfl) t d).trans
    (by unfold Dat.fetched Dat.blockOf blk; rw [dat_A]; try rfl)
/-- Input 9's buffer before the body runs holds the point's block. -/
theorem before_9 (t : Fin cfg0.N) (d) : (dat V c).before 9 t d = blk V c 9 t :=
  (before_of V c 9 rfl (fun _ => rfl) (fun _ _ _ => rfl) (fun t => by rw [after_9]; unfold Dat.blockOf blk; rw [dat_A]; try rfl) t d).trans
    (by unfold Dat.fetched Dat.blockOf blk; rw [dat_A]; try rfl)
/-- Input 10's buffer before the body runs holds the point's block. -/
theorem before_10 (t : Fin cfg0.N) (d) : (dat V c).before 10 t d = blk V c 10 t :=
  (before_of V c 10 rfl (fun _ => rfl) (fun _ _ _ => rfl) (fun t => by rw [after_10]; unfold Dat.blockOf blk; rw [dat_A]; try rfl) t d).trans
    (by unfold Dat.fetched Dat.blockOf blk; rw [dat_A]; try rfl)
/-- Input 11's buffer before the body runs holds the point's block. -/
theorem before_11 (t : Fin cfg0.N) (d) : (dat V c).before 11 t d = blk V c 11 t :=
  (before_of V c 11 rfl (fun _ => rfl) (fun _ _ _ => rfl) (fun t => by rw [after_11]; unfold Dat.blockOf blk; rw [dat_A]; try rfl) t d).trans
    (by unfold Dat.fetched Dat.blockOf blk; rw [dat_A]; try rfl)

end Cert.KernelIdeal.FusedCall

end
-- ==== Proof.FusedObligation.lean ====
module

public import proofs.«01_k».proof.Proof.FusedCall

/-! # The first call's body obligation

At every point the body takes the carried state and the windows' buffers to the state of the next point: one case per
stage. -/

@[expose] public section

set_option maxRecDepth 16384

noncomputable section

namespace Cert.KernelIdeal.FusedCall

open Cert.KernelIdeal.Gen
open Cert.KernelIdeal.UserCall (Contents)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : Contents F) (c : Dev nD)

/-- The inputs' buffers at their blocks. -/
def inputs (t : Fin cfg0.N) : sProp 𝕄 :=
  iprop(owns (c : Thread nD τ) (st0_0 t) fullShare (blk V c 0 t) ∗ owns (c : Thread nD τ) (st0_1 t) fullShare (blk V c 1 t) ∗ owns (c : Thread nD τ) (st0_2 t) fullShare (blk V c 2 t) ∗ owns (c : Thread nD τ) (st0_3 t) fullShare (blk V c 3 t) ∗ owns (c : Thread nD τ) (st0_4 t) fullShare (blk V c 4 t) ∗ owns (c : Thread nD τ) (st0_5 t) fullShare (blk V c 5 t) ∗ owns (c : Thread nD τ) (st0_6 t) fullShare (blk V c 6 t) ∗ owns (c : Thread nD τ) (st0_7 t) fullShare (blk V c 7 t) ∗ owns (c : Thread nD τ) (st0_8 t) fullShare (blk V c 8 t) ∗ owns (c : Thread nD τ) (st0_9 t) fullShare (blk V c 9 t) ∗ owns (c : Thread nD τ) (st0_10 t) fullShare (blk V c 10 t) ∗ owns (c : Thread nD τ) (st0_11 t) fullShare (blk V c 11 t))

/-- The outputs' buffers at anything. -/
def outputs (t : Fin cfg0.N) : sProp 𝕄 :=
  iprop((∃ d, owns (c : Thread nD τ) (st0_12 t) fullShare d) ∗ (∃ d, owns (c : Thread nD τ) (st0_13 t) fullShare d) ∗ (∃ d, owns (c : Thread nD τ) (st0_14 t) fullShare d))

set_option maxHeartbeats 2000000 in
/-- The body at a point before the last: the carried state moves on, the outputs' buffers are not touched. -/
theorem body_early (t : Fin cfg0.N) (ht : t.val < 32) (K : PUnit → sProp 𝕄) :
    iprop(carried V c t.val ∗ inputs V c t ∗ (iprop(carried V c (t.val + 1) ∗ inputs V c t) -∗ K ⟨⟩))
      ⊢ wp frame (wpE (defs₀ (F := F)) Variants.none c none) Set.univ (bodyAt0 t) K := by
  unfold carried inputs bodyAt0
  iintro ⟨⟨%S0, %S1, %S2, %S3, %S4, %S5, %S6, %S7, %hI, C0, C1, C2, C3, C4, C5, C6, C7, HR⟩, ⟨I0, I1, I2, I3, I4, I5, I6, I7, I8, I9, I10, I11⟩, Hk⟩
  have c4 := mt (cond4_iff t).mp (by omega)
  rcases lt_or_ge t.val 16 with h16 | h16
  · iapply (stage1 c Set.univ (grid0.coords t) _ _ _ _ _ _ _ _ _ _ _ _ _ _ _ _ _ _ _ _ _ _ _ _ _ _ _ _ _ _ _ _ _ _ _ _ _ _ _ _ _ _ _ _ _ _ ((cond1_iff t).mpr h16) (mt (cond2_iff t).mp (by omega)) (mt (cond3_iff t).mp (by omega)) c4 _ (off1_eq t h16) (blk V c 2 t) (blk V c 3 t) (blk V c 4 t) (blk V c 5 t) (blk V c 6 t) (blk V c 7 t) (blk V c 8 t) (blk V c 9 t) S0 S1 S2 S3 _)
    isplitl [I2]; · iexact I2
    isplitl [I3]; · iexact I3
    isplitl [I4]; · iexact I4
    isplitl [I5]; · iexact I5
    isplitl [I6]; · iexact I6
    isplitl [I7]; · iexact I7
    isplitl [I8]; · iexact I8
    isplitl [I9]; · iexact I9
    isplitl [C0]; · iexact C0
    isplitl [C1]; · iexact C1
    isplitl [C2]; · iexact C2
    isplitl [C3]; · iexact C3
    iintro ⟨I2, I3, I4, I5, I6, I7, I8, I9, C0, C1, C2, C3⟩
    iapply Hk
    isplitr [I0 I1 I2 I3 I4 I5 I6 I7 I8 I9 I10 I11]
    · iexists _, _, _, _, _, _, _, _
      isplitr; · ipureintro; exact hI.step1 h16
      isplitl [C0]; · iexact C0
      isplitl [C1]; · iexact C1
      isplitl [C2]; · iexact C2
      isplitl [C3]; · iexact C3
      isplitl [C4]; · iexact C4
      isplitl [C5]; · iexact C5
      isplitl [C6]; · iexact C6
      isplitl [C7]; · iexact C7
      iexact HR
    isplitl [I0]; · iexact I0
    isplitl [I1]; · iexact I1
    isplitl [I2]; · iexact I2
    isplitl [I3]; · iexact I3
    isplitl [I4]; · iexact I4
    isplitl [I5]; · iexact I5
    isplitl [I6]; · iexact I6
    isplitl [I7]; · iexact I7
    isplitl [I8]; · iexact I8
    isplitl [I9]; · iexact I9
    isplitl [I10]; · iexact I10
    iexact I11
  rcases lt_or_ge t.val 24 with h24 | h24
  · iapply (stage2 c Set.univ (grid0.coords t) _ _ _ _ _ _ _ _ _ _ _ _ _ _ _ _ _ _ _ _ _ _ _ _ _ _ _ _ _ _ _ _ _ _ _ _ _ _ _ _ _ _ _ _ _ _ (mt (cond1_iff t).mp (by omega)) ((cond2_iff t).mpr ⟨h16, h24⟩) (mt (cond3_iff t).mp (by omega)) c4 _ (off2_eq t h16 h24) (blk V c 0 t) (blk V c 1 t) S0 S1 S4 S5 _)
    isplitl [I0]; · iexact I0
    isplitl [I1]; · iexact I1
    isplitl [C0]; · iexact C0
    isplitl [C1]; · iexact C1
    isplitl [C4]; · iexact C4
    isplitl [C5]; · iexact C5
    iintro ⟨I0, I1, C0, C1, C4, C5⟩
    iapply Hk
    isplitr [I0 I1 I2 I3 I4 I5 I6 I7 I8 I9 I10 I11]
    · iexists _, _, _, _, _, _, _, _
      isplitr; · ipureintro; exact hI.step2 h16 h24
      isplitl [C0]; · iexact C0
      isplitl [C1]; · iexact C1
      isplitl [C2]; · iexact C2
      isplitl [C3]; · iexact C3
      isplitl [C4]; · iexact C4
      isplitl [C5]; · iexact C5
      isplitl [C6]; · iexact C6
      isplitl [C7]; · iexact C7
      iexact HR
    isplitl [I0]; · iexact I0
    isplitl [I1]; · iexact I1
    isplitl [I2]; · iexact I2
    isplitl [I3]; · iexact I3
    isplitl [I4]; · iexact I4
    isplitl [I5]; · iexact I5
    isplitl [I6]; · iexact I6
    isplitl [I7]; · iexact I7
    isplitl [I8]; · iexact I8
    isplitl [I9]; · iexact I9
    isplitl [I10]; · iexact I10
    iexact I11
  · iapply (stage3 c Set.univ (grid0.coords t) _ _ _ _ _ _ _ _ _ _ _ _ _ _ _ _ _ _ _ _ _ _ _ _ _ _ _ _ _ _ _ _ _ _ _ _ _ _ _ _ _ _ _ _ _ _ (mt (cond1_iff t).mp (by omega)) (mt (cond2_iff t).mp (by omega)) ((cond3_iff t).mpr ⟨h24, ht⟩) c4 _ (off3_eq t h24 ht) (blk V c 0 t) (blk V c 1 t) S4 S5 S6 S7 _)
    isplitl [I0]; · iexact I0
    isplitl [I1]; · iexact I1
    isplitl [C4]; · iexact C4
    isplitl [C5]; · iexact C5
    isplitl [C6]; · iexact C6
    isplitl [C7]; · iexact C7
    iintro ⟨I0, I1, C4, C5, C6, C7⟩
    iapply Hk
    isplitr [I0 I1 I2 I3 I4 I5 I6 I7 I8 I9 I10 I11]
    · iexists _, _, _, _, _, _, _, _
      isplitr; · ipureintro; exact hI.step3 h24 ht
      isplitl [C0]; · iexact C0
      isplitl [C1]; · iexact C1
      isplitl [C2]; · iexact C2
      isplitl [C3]; · iexact C3
      isplitl [C4]; · iexact C4
      isplitl [C5]; · iexact C5
      isplitl [C6]; · iexact C6
      isplitl [C7]; · iexact C7
      iexact HR
    isplitl [I0]; · iexact I0
    isplitl [I1]; · iexact I1
    isplitl [I2]; · iexact I2
    isplitl [I3]; · iexact I3
    isplitl [I4]; · iexact I4
    isplitl [I5]; · iexact I5
    isplitl [I6]; · iexact I6
    isplitl [I7]; · iexact I7
    isplitl [I8]; · iexact I8
    isplitl [I9]; · iexact I9
    isplitl [I10]; · iexact I10
    iexact I11

set_option maxHeartbeats 2000000 in
/-- The body at the last point: the outputs are written from the finished scratch arrays. -/
theorem body_last (t : Fin cfg0.N) (ht : t.val = 32) (K : PUnit → sProp 𝕄) :
    iprop(carried V c t.val ∗ inputs V c t ∗ outputs c t
        ∗ (iprop(carried V c (t.val + 1) ∗ inputs V c t
          ∗ owns (c : Thread nD τ) (st0_12 t) fullShare ((dat V c).after 12 t)
          ∗ owns (c : Thread nD τ) (st0_13 t) fullShare ((dat V c).after 13 t)
          ∗ owns (c : Thread nD τ) (st0_14 t) fullShare ((dat V c).after 14 t)) -∗ K ⟨⟩))
      ⊢ wp frame (wpE (defs₀ (F := F)) Variants.none c none) Set.univ (bodyAt0 t) K := by
  rw [after_embeddings, after_scores, after_rawScores]
  unfold carried inputs outputs bodyAt0
  iintro ⟨⟨%S0, %S1, %S2, %S3, %S4, %S5, %S6, %S7, %hI, C0, C1, C2, C3, C4, C5, C6, C7, HR⟩, ⟨I0, I1, I2, I3, I4, I5, I6, I7, I8, I9, I10, I11⟩, ⟨O12, O13, O14⟩, Hk⟩
  have e2 := hI.rawI.eq (by omega)
  have e3 := hI.rawT.eq (by omega)
  have e6 := hI.twiceI.eq (by omega)
  have e7 := hI.twiceT.eq (by omega)
  rw [← e2, ← e3, ← e6, ← e7]
  iapply (stage4 c Set.univ (grid0.coords t) _ _ _ _ _ _ _ _ _ _ _ _ _ _ _ _ _ _ _ _ _ _ _ _ _ _ _ _ _ _ _ _ _ _ _ _ _ _ _ _ _ _ _ _ _ _ (mt (cond1_iff t).mp (by omega)) (mt (cond2_iff t).mp (by omega)) (mt (cond3_iff t).mp (by omega)) ((cond4_iff t).mpr ht) (blk V c 10 t) (blk V c 11 t) S2 S3 S6 S7 _)
  isplitl [I10]; · iexact I10
  isplitl [I11]; · iexact I11
  isplitl [C2]; · iexact C2
  isplitl [C3]; · iexact C3
  isplitl [C6]; · iexact C6
  isplitl [C7]; · iexact C7
  isplitl [O12]; · iexact O12
  isplitl [O13]; · iexact O13
  isplitl [O14]; · iexact O14
  iintro ⟨I10, I11, C2, C3, C6, C7, O12, O13, O14⟩
  iapply Hk
  isplitr [I0 I1 I2 I3 I4 I5 I6 I7 I8 I9 I10 I11 O12 O13 O14]
  · iexists _, _, _, _, _, _, _, _
    isplitr; · ipureintro; exact hI.step4 ht
    isplitl [C0]; · iexact C0
    isplitl [C1]; · iexact C1
    isplitl [C2]; · iexact C2
    isplitl [C3]; · iexact C3
    isplitl [C4]; · iexact C4
    isplitl [C5]; · iexact C5
    isplitl [C6]; · iexact C6
    isplitl [C7]; · iexact C7
    iexact HR
  isplitr [O12 O13 O14]
  · isplitl [I0]; · iexact I0
    isplitl [I1]; · iexact I1
    isplitl [I2]; · iexact I2
    isplitl [I3]; · iexact I3
    isplitl [I4]; · iexact I4
    isplitl [I5]; · iexact I5
    isplitl [I6]; · iexact I6
    isplitl [I7]; · iexact I7
    isplitl [I8]; · iexact I8
    isplitl [I9]; · iexact I9
    isplitl [I10]; · iexact I10
    iexact I11
  isplitl [O12]; · iexact O12
  isplitl [O13]; · iexact O13
  iexact O14

/-- Before the last point the outputs are not written. -/
theorem idle_early (t : Fin cfg0.N) (ht : t.val < 32) : (!(k0_cond4 (grid0.coords t) == 1#1)) = true := by
  have := mt (cond4_iff t).mp (by omega)
  simpa using this
/-- At the last point they are. -/
theorem idle_last (t : Fin cfg0.N) (ht : t.val = 32) : (!(k0_cond4 (grid0.coords t) == 1#1)) = false := by
  have := (cond4_iff t).mpr ht
  simp [this]

/-- What the body leaves of an output's buffer: before the last point what it found. -/
def left (w : Fin cfg0.W) (t : Fin cfg0.N) : sProp 𝕄 :=
  match cfg0.idle w (cfg0.grid.coords t) with
  | true =>
    match (cfg0.win w).flush t with
    | false => iprop(∃ d, owns (c : Thread nD τ) ((cfg0.win w).stage (cfg0.slots t w)) fullShare ((dat V c).before w t d))
    | true => owns (c : Thread nD τ) ((cfg0.win w).stage (cfg0.slots t w)) fullShare ((dat V c).after w t)
  | false => owns (c : Thread nD τ) ((cfg0.win w).stage (cfg0.slots t w)) fullShare ((dat V c).after w t)

/-- What the body leaves of a window that it does not write at a point and that is not written back. -/
theorem left_idle (w : Fin cfg0.W) (t : Fin cfg0.N) (hi : cfg0.idle w (cfg0.grid.coords t) = true) (hf : (cfg0.win w).flush t = false) :
    left V c w t = iprop(∃ d, owns (c : Thread nD τ) ((cfg0.win w).stage (cfg0.slots t w)) fullShare ((dat V c).before w t d)) := by
  unfold left; rw [hi, hf]
/-- What the body leaves of a window in use. -/
theorem left_live (w : Fin cfg0.W) (t : Fin cfg0.N) (hi : cfg0.idle w (cfg0.grid.coords t) = false) :
    left V c w t = owns (c : Thread nD τ) ((cfg0.win w).stage (cfg0.slots t w)) fullShare ((dat V c).after w t) := by
  unfold left; rw [hi]

set_option maxHeartbeats 2000000 in
/-- The body at any point, from what the pipeline hands it to what it takes back. -/
theorem body_point (t : Fin cfg0.N) :
    iprop((dat V c).Φ t.castSucc ∗ (dat V c).owesAt () t.castSucc
      ∗ (∃ d, owns (c : Thread nD τ) (st0_0 t) fullShare ((dat V c).before 0 t d))
      ∗ (∃ d, owns (c : Thread nD τ) (st0_1 t) fullShare ((dat V c).before 1 t d))
      ∗ (∃ d, owns (c : Thread nD τ) (st0_2 t) fullShare ((dat V c).before 2 t d))
      ∗ (∃ d, owns (c : Thread nD τ) (st0_3 t) fullShare ((dat V c).before 3 t d))
      ∗ (∃ d, owns (c : Thread nD τ) (st0_4 t) fullShare ((dat V c).before 4 t d))
      ∗ (∃ d, owns (c : Thread nD τ) (st0_5 t) fullShare ((dat V c).before 5 t d))
      ∗ (∃ d, owns (c : Thread nD τ) (st0_6 t) fullShare ((dat V c).before 6 t d))
      ∗ (∃ d, owns (c : Thread nD τ) (st0_7 t) fullShare ((dat V c).before 7 t d))
      ∗ (∃ d, owns (c : Thread nD τ) (st0_8 t) fullShare ((dat V c).before 8 t d))
      ∗ (∃ d, owns (c : Thread nD τ) (st0_9 t) fullShare ((dat V c).before 9 t d))
      ∗ (∃ d, owns (c : Thread nD τ) (st0_10 t) fullShare ((dat V c).before 10 t d))
      ∗ (∃ d, owns (c : Thread nD τ) (st0_11 t) fullShare ((dat V c).before 11 t d))
      ∗ (∃ d, owns (c : Thread nD τ) (st0_12 t) fullShare ((dat V c).before 12 t d))
      ∗ (∃ d, owns (c : Thread nD τ) (st0_13 t) fullShare ((dat V c).before 13 t d))
      ∗ (∃ d, owns (c : Thread nD τ) (st0_14 t) fullShare ((dat V c).before 14 t d)))
    ⊢ wp frame (wpE (defs₀ (F := F)) Variants.none c none) Set.univ (bodyAt0 t) (fun _ =>
      iprop((dat V c).Φ t.succ ∗ (dat V c).owesAt () t.succ
        ∗ owns (c : Thread nD τ) (st0_0 t) fullShare ((dat V c).after 0 t)
        ∗ owns (c : Thread nD τ) (st0_1 t) fullShare ((dat V c).after 1 t)
        ∗ owns (c : Thread nD τ) (st0_2 t) fullShare ((dat V c).after 2 t)
        ∗ owns (c : Thread nD τ) (st0_3 t) fullShare ((dat V c).after 3 t)
        ∗ owns (c : Thread nD τ) (st0_4 t) fullShare ((dat V c).after 4 t)
        ∗ owns (c : Thread nD τ) (st0_5 t) fullShare ((dat V c).after 5 t)
        ∗ owns (c : Thread nD τ) (st0_6 t) fullShare ((dat V c).after 6 t)
        ∗ owns (c : Thread nD τ) (st0_7 t) fullShare ((dat V c).after 7 t)
        ∗ owns (c : Thread nD τ) (st0_8 t) fullShare ((dat V c).after 8 t)
        ∗ owns (c : Thread nD τ) (st0_9 t) fullShare ((dat V c).after 9 t)
        ∗ owns (c : Thread nD τ) (st0_10 t) fullShare ((dat V c).after 10 t)
        ∗ owns (c : Thread nD τ) (st0_11 t) fullShare ((dat V c).after 11 t)
        ∗ left V c 12 t ∗ left V c 13 t ∗ left V c 14 t)) := by
  simp only [before_0, before_1, before_2, before_3, before_4, before_5, before_6, before_7, before_8, before_9, before_10, before_11, after_0, after_1, after_2, after_3, after_4, after_5, after_6, after_7, after_8, after_9, after_10, after_11]
  rw [show (dat V c).Φ t.succ = carried V c (t.val + 1) from rfl, show (dat V c).Φ t.castSucc = carried V c t.val from rfl,
    show (dat V c).owesAt () t.succ = (dat V c).owesAt () t.castSucc from rfl]
  iintro ⟨HΦ, Ho, ⟨%d0, I0⟩, ⟨%d1, I1⟩, ⟨%d2, I2⟩, ⟨%d3, I3⟩, ⟨%d4, I4⟩, ⟨%d5, I5⟩, ⟨%d6, I6⟩, ⟨%d7, I7⟩, ⟨%d8, I8⟩, ⟨%d9, I9⟩, ⟨%d10, I10⟩, ⟨%d11, I11⟩, H12, H13, H14⟩
  rcases Nat.lt_or_ge t.val 32 with ht | ht
  · rw [left_idle V c 12 t (idle_early t ht) (Bool.eq_false_iff.mpr (mt (flush0_12 t).mp (by omega))),
      left_idle V c 13 t (idle_early t ht) (Bool.eq_false_iff.mpr (mt (flush0_13 t).mp (by omega))),
      left_idle V c 14 t (idle_early t ht) (Bool.eq_false_iff.mpr (mt (flush0_14 t).mp (by omega)))]
    iapply (body_early V c t ht _)
    isplitl [HΦ]; · iexact HΦ
    isplitl [I0 I1 I2 I3 I4 I5 I6 I7 I8 I9 I10 I11]
    · unfold inputs
      isplitl [I0]; · iexact I0
      isplitl [I1]; · iexact I1
      isplitl [I2]; · iexact I2
      isplitl [I3]; · iexact I3
      isplitl [I4]; · iexact I4
      isplitl [I5]; · iexact I5
      isplitl [I6]; · iexact I6
      isplitl [I7]; · iexact I7
      isplitl [I8]; · iexact I8
      isplitl [I9]; · iexact I9
      isplitl [I10]; · iexact I10
      iexact I11
    unfold inputs
    iintro ⟨HΦ, ⟨I0, I1, I2, I3, I4, I5, I6, I7, I8, I9, I10, I11⟩⟩
    isplitl [HΦ]; · iexact HΦ
    isplitl [Ho]; · iexact Ho
    isplitl [I0]; · iexact I0
    isplitl [I1]; · iexact I1
    isplitl [I2]; · iexact I2
    isplitl [I3]; · iexact I3
    isplitl [I4]; · iexact I4
    isplitl [I5]; · iexact I5
    isplitl [I6]; · iexact I6
    isplitl [I7]; · iexact I7
    isplitl [I8]; · iexact I8
    isplitl [I9]; · iexact I9
    isplitl [I10]; · iexact I10
    isplitl [I11]; · iexact I11
    isplitl [H12]; · iexact H12
    isplitl [H13]; · iexact H13
    iexact H14
  · have h32 : t.val = 32 := by have := lt33 t; omega
    rw [left_live V c 12 t (idle_last t h32), left_live V c 13 t (idle_last t h32), left_live V c 14 t (idle_last t h32)]
    icases H12 with ⟨%d12, H12⟩
    icases H13 with ⟨%d13, H13⟩
    icases H14 with ⟨%d14, H14⟩
    iapply (body_last V c t h32 _)
    isplitl [HΦ]; · iexact HΦ
    isplitl [I0 I1 I2 I3 I4 I5 I6 I7 I8 I9 I10 I11]
    · unfold inputs
      isplitl [I0]; · iexact I0
      isplitl [I1]; · iexact I1
      isplitl [I2]; · iexact I2
      isplitl [I3]; · iexact I3
      isplitl [I4]; · iexact I4
      isplitl [I5]; · iexact I5
      isplitl [I6]; · iexact I6
      isplitl [I7]; · iexact I7
      isplitl [I8]; · iexact I8
      isplitl [I9]; · iexact I9
      isplitl [I10]; · iexact I10
      iexact I11
    isplitl [H12 H13 H14]
    · unfold outputs
      isplitl [H12]; · iexists _; iexact H12
      isplitl [H13]; · iexists _; iexact H13
      iexists _; iexact H14
    unfold inputs
    iintro ⟨HΦ, ⟨I0, I1, I2, I3, I4, I5, I6, I7, I8, I9, I10, I11⟩, H12, H13, H14⟩
    isplitl [HΦ]; · iexact HΦ
    isplitl [Ho]; · iexact Ho
    isplitl [I0]; · iexact I0
    isplitl [I1]; · iexact I1
    isplitl [I2]; · iexact I2
    isplitl [I3]; · iexact I3
    isplitl [I4]; · iexact I4
    isplitl [I5]; · iexact I5
    isplitl [I6]; · iexact I6
    isplitl [I7]; · iexact I7
    isplitl [I8]; · iexact I8
    isplitl [I9]; · iexact I9
    isplitl [I10]; · iexact I10
    isplitl [I11]; · iexact I11
    isplitl [H12]; · iexact H12
    isplitl [H13]; · iexact H13
    iexact H14

set_option maxHeartbeats 2000000 in
/-- The body obligation of the call. -/
theorem body_obligation : BodyObligation (dat V c) (defs₀ (F := F)) Variants.none () Set.univ := fun t => by
  rw [bigSep_W0, bigSep_W0, show defs₀ (F := F) .tc cfg0.body (cfg0.bodyArgs t (cfg0.slots t)) = bodyAt0 t by
    unfold defs₀; rw [Defs.onTc_tc]]
  exact triple_restated (body_point V c t) rfl .rfl fun _ => .rfl

end Cert.KernelIdeal.FusedCall

end
-- ==== Proof.Whole.lean ====
module

public import proofs.«01_k».proof.Proof.FusedObligation
public import proofs.«01_k».proof.Proof.Gen.KernelIdeal.Regions
public import Idealize.ShloMosaic.Lib.Pipeline.RegionsLoop
public import Idealize.ShloMosaic.Lib.Pipeline.FrameSuffix

/-! # The whole program's run

The program is a host stretch, the first call, a host stretch, the second call and a last host stretch. `W0` … `W5` are
the contents of the buffers at the boundaries, over whatever memory the program is launched from. The run ends with
every buffer that outlives the calls at `W5`, and every semaphore at zero. -/

@[expose] public section

set_option maxRecDepth 16384

noncomputable section

namespace Cert.KernelIdeal.Whole

open Cert.KernelIdeal.Gen hiding V0 V1 V2 V3 V4 V5
open Cert.KernelIdeal.UserCall (Contents)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The contents at the boundaries -/

/-- At launch. -/
abbrev W0 : Dev nD → Valuation τ sig (Elt F) := fun c b => m (c, b)
/-- After the first host stretch. -/
abbrev W1 : Dev nD → Valuation τ sig (Elt F) := fun c => StableHlo.after hostOps0 (W0 m c)
/-- The same, at a core's own references: what the first call is entered with. -/
abbrev V1 : Contents F := fun c b => W1 m c b
/-- After the first call: its arrays at what its write-backs leave. -/
def W2 (c : Dev nD) : Valuation τ sig (Elt F) :=
  Pipeline.withArrays spec0 c (W1 m c) fun w => (FusedCall.dat (V1 m) c).arrAt w cfg0.N
/-- The same contents, by reference. -/
abbrev V2 : Contents F := fun c b => W2 m c b
/-- After the second host stretch. -/
abbrev W3 : Dev nD → Valuation τ sig (Elt F) := fun c => StableHlo.after hostOps1 (W2 m c)
/-- The same contents, by reference. -/
abbrev V3 : Contents F := fun c b => W3 m c b
/-- After the second call. -/
def W4 (c : Dev nD) : Valuation τ sig (Elt F) :=
  Pipeline.withArrays spec1 c (W3 m c) fun w => (UserCall.dat (V3 m) c).arrAt w cfg1.N
/-- The same contents, by reference. -/
abbrev V4 : Contents F := fun c b => W4 m c b
/-- After the last host stretch. -/
abbrev W5 : Dev nD → Valuation τ sig (Elt F) := fun c => StableHlo.after hostOps2 (W4 m c)

/-- A reference a host stretch does not write keeps its contents. -/
theorem W1_of (c : Dev nD) (r : Ref sig .tc) (h : r ∉ hostOps0_W) : W1 m c (Proc.devRef .tc r) = W0 m c (Proc.devRef .tc r) :=
  StableHlo.after_of_writes_sub hostOps0 _ hostOps0_writes h
/-- The second host stretch changes only what it writes. -/
theorem W3_of (c : Dev nD) (r : Ref sig .tc) (h : r ∉ hostOps1_W) : W3 m c (Proc.devRef .tc r) = W2 m c (Proc.devRef .tc r) :=
  StableHlo.after_of_writes_sub hostOps1 _ hostOps1_writes h
/-- The last host stretch changes only what it writes. -/
theorem W5_of (c : Dev nD) (r : Ref sig .tc) (h : r ∉ hostOps2_W) : W5 m c (Proc.devRef .tc r) = W4 m c (Proc.devRef .tc r) :=
  StableHlo.after_of_writes_sub hostOps2 _ hostOps2_writes h

/-- A call's own array holds what its write-backs leave. -/
theorem W2_arr (c : Dev nD) (w : Fin cfg0.W) :
    W2 m c (Proc.devRef .tc (Pipeline.arrRef spec0 w)) = (FusedCall.dat (V1 m) c).arrAt w cfg0.N := by
  unfold W2; exact Pipeline.withArrays_arr spec0 launch0.win.arr_inj c _ _ w
/-- The first call changes none but its own arrays. -/
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- A reference that is no output array of the call keeps its contents. -/
theorem W2_of (c : Dev nD) (r : Ref sig .tc) (h : ∀ w : Fin cfg0.W, Pipeline.arrRef spec0 w = r → (cfg0.win w).isOut = false) :
    W2 m c (Proc.devRef .tc r) = W1 m c (Proc.devRef .tc r) := by
  by_cases hw : ∃ w : Fin cfg0.W, Pipeline.arrRef spec0 w = r
  · obtain ⟨w, rfl⟩ := hw
    exact (W2_arr m c w).trans (((FusedCall.dat (V1 m) c).arrAt_in w (h w rfl) _).trans (FusedCall.dat_A (V1 m) c w))
  · exact W2_of_ne m c r fun w e => hw ⟨w, e⟩

/-- A call's own array holds what its write-backs leave. -/
theorem W4_arr (c : Dev nD) (w : Fin cfg1.W) :
    W4 m c (Proc.devRef .tc (Pipeline.arrRef spec1 w)) = (UserCall.dat (V3 m) c).arrAt w cfg1.N := by
  unfold W4; exact Pipeline.withArrays_arr spec1 launch1.win.arr_inj c _ _ w
/-- The second call changes none but its own arrays. -/
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
/-- A reference that is no output array of the call keeps its contents. -/
theorem W4_of (c : Dev nD) (r : Ref sig .tc) (h : ∀ w : Fin cfg1.W, Pipeline.arrRef spec1 w = r → (cfg1.win w).isOut = false) :
    W4 m c (Proc.devRef .tc r) = W3 m c (Proc.devRef .tc r) := by
  by_cases hw : ∃ w : Fin cfg1.W, Pipeline.arrRef spec1 w = r
  · obtain ⟨w, rfl⟩ := hw
    exact (W4_arr m c w).trans (((UserCall.dat (V3 m) c).arrAt_in w (h w rfl) _).trans (UserCall.dat_A (V3 m) c w))
  · exact W4_of_ne m c r fun w e => hw ⟨w, e⟩

/-- The argument references. -/
abbrev argRefs : List (Ref sig .tc) := [main_arg0, main_arg1, main_arg2, main_arg3, main_arg4, main_arg5, main_arg6, main_arg7, main_arg8, main_arg9, main_arg10, main_arg11, main_arg12, main_arg13, main_arg14, main_arg15]

/-- The first host stretch writes no argument. -/
theorem args_host0 : ∀ a ∈ argRefs, a ∉ hostOps0_W := ListAll.forall_mem_of_all_decide (by decide +kernel)
/-- The second host stretch writes no argument. -/
theorem args_host1 : ∀ a ∈ argRefs, a ∉ hostOps1_W := ListAll.forall_mem_of_all_decide (by decide +kernel)
/-- The last host stretch writes no argument. -/
theorem args_host2 : ∀ a ∈ argRefs, a ∉ hostOps2_W := ListAll.forall_mem_of_all_decide (by decide +kernel)
/-- No argument is an output of the first call. -/
theorem args_call0 : ∀ a ∈ argRefs, ∀ w : Fin cfg0.W, Pipeline.arrRef spec0 w = a → (cfg0.win w).isOut = false :=
  ListAll.forall_mem_of_all_decide (by decide +kernel)
/-- No argument is an output of the second call. -/
theorem args_call1 : ∀ a ∈ argRefs, ∀ w : Fin cfg1.W, Pipeline.arrRef spec1 w = a → (cfg1.win w).isOut = false :=
  ListAll.forall_mem_of_all_decide (by decide +kernel)
/-- The first call finds every argument as launched. -/
theorem W1_args (c : Dev nD) : ∀ a ∈ argRefs, W1 m c (Proc.devRef .tc a) = m ((c : Thread nD τ).loc a) :=
  fun a ha => W1_of m c a (args_host0 a ha)
/-- The second call finds every argument as launched. -/
theorem W3_args (c : Dev nD) : ∀ a ∈ argRefs, W3 m c (Proc.devRef .tc a) = m ((c : Thread nD τ).loc a) :=
  fun a ha => (W3_of m c a (args_host1 a ha)).trans ((W2_of m c a (args_call0 a ha)).trans (W1_args m c a ha))
/-- Every argument ends as launched. -/
theorem W5_args (c : Dev nD) : ∀ a ∈ argRefs, W5 m c (Proc.devRef .tc a) = m ((c : Thread nD τ).loc a) :=
  fun a ha => (W5_of m c a (args_host2 a ha)).trans ((W4_of m c a (args_call1 a ha)).trans (W3_args m c a ha))

/-! ## The segments -/

/-- Both calls' proof data. -/
def pdats : (p : Fin 2) → (c : Dev nD) → Dat τ (Elt F) Unit ℕ (UR sig nD τ) ℕ (Pipeline.pin (pcfgs (F := F)) adm p) c
  | ⟨0, _⟩ => fun c => FusedCall.dat (V1 m) c
  | ⟨1, _⟩ => fun c => UserCall.dat (V3 m) c
/-- The run needs no variants. -/
abbrev 𝒱₀ : Variants := Variants.none
/-- No semaphore has a cell of its own. -/
abbrev L : GSem nD τ sig → Finset Unit := fun _ => ∅
/-- And no levels. -/
abbrev lv : GSem nD τ sig → Unit → ℕ := fun _ _ => 0
/-- What rides beside the buffers: the generator's register, and nothing owed. -/
abbrev R (c : Dev nD) : sProp 𝕄 := iprop((∃ r, prngReg c r) ∗ ∃ W, owes (c : Thread nD τ) (0 : CellTallies nD τ sig Unit) W)
/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- A buffer without a scope is among those that last. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state. -/
abbrev Tₙ (c : Dev nD) : sProp 𝕄 := iprop(StableHlo.held (c : Thread nD τ) (Pipeline.ucRefs τ sig) (W5 m c) ∗ ∃ r, prngReg c r)

/-- The scratch buffers at anything start the first call's carried state. -/
theorem carried_start (c : Dev nD) :
    iprop((∃ r, prngReg c r) ∗ Pipeline.scopedRest (Ix := Unit) (Name := ℕ) (U := UR sig nD τ) (Lvl := ℕ) (Val := Elt F) spec0 c) ⊢ FusedCall.carried (V1 m) c 0 := by
  rw [scopedRest0_eq]; unfold FusedCall.carried FusedCall.others
  simp only [owns_whole]
  iintro ⟨Hp, ⟨%S0, H0⟩, ⟨%S1, H1⟩, ⟨%S2, H2⟩, ⟨%S3, H3⟩, ⟨%S4, H4⟩, ⟨%S5, H5⟩, ⟨%S6, H6⟩, ⟨%S7, H7⟩, Hr⟩
  iexists S0, S1, S2, S3, S4, S5, S6, S7
  isplitr; · ipureintro; exact FusedCall.Inv.start
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [Hr]; · iexact Hr
  iexact Hp

/-- The carried state gives the scratch buffers back. -/
theorem carried_end (c : Dev nD) (n : ℕ) :
    FusedCall.carried (V1 m) c n ⊢ iprop((∃ r, prngReg c r) ∗ Pipeline.scopedRest (Ix := Unit) (Name := ℕ) (U := UR sig nD τ) (Lvl := ℕ) (Val := Elt F) spec0 c) := by
  rw [scopedRest0_eq]; unfold FusedCall.carried FusedCall.others
  simp only [owns_whole]
  iintro ⟨%S0, %S1, %S2, %S3, %S4, %S5, %S6, %S7, -, H0, H1, H2, H3, H4, H5, H6, H7, Hr, Hp⟩
  isplitl [Hp]; · iexact Hp
  isplitl [H0]; · iexists _; iexact H0
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  iexact Hr

-- the library's lemmas are stated over a family of configurations; unifying with one of them unfolds plain definitions
set_option backward.isDefEq.respectTransparency.types false in
/-- The first call as a segment, from `W1` to `W2`. -/
def call0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (FusedCall.body_obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) (FusedCall.dat_A (V1 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = FusedCall.carried (V1 m) c 0 from rfl]
    iintro ⟨Hp, -, Hr⟩
    iapply (carried_start m c)
    isplitl [Hp]; · iexact Hp
    iexact Hr
  hout c := by
    rw [Pipeline.ownSems0_none, show (pdats m 0 c).Φ (Fin.last _) = FusedCall.carried (V1 m) c cfg0.N from rfl]
    iintro H
    ihave H' := (carried_end m c cfg0.N) $$ H
    icases H' with ⟨Hp, Hr⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (fun w => (W2_arr m c w).symm)
      (fun b hb => W2_of_ne m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's lemmas are stated over a family of configurations; unifying with one of them unfolds plain definitions
set_option backward.isDefEq.respectTransparency.types false in
/-- The second call as a segment, from `W3` to `W4`. -/
def call1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (UserCall.body_obligation (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) (UserCall.dat_A (V3 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (fun w => (W4_arr m c w).symm)
      (fun b hb => W4_of_ne m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The program's five segments in order. -/
abbrev segs : List (Pipeline.Seg (pcfgs (F := F)) adm (pdats m) () defs₀ 𝒱₀ L lv) :=
  [ .host (hseg hostOps0 hostOps0_sub hostOps0_fresh (W0 m)),
    .region (call0 m),
    .host (hseg hostOps1 hostOps1_sub hostOps1_fresh (W2 m)),
    .region (call1 m),
    .host (hseg hostOps2 hostOps2_sub hostOps2_fresh (W4 m)) ]
/-- The program is the run of the segments. -/
theorem main_run (c : Dev nD) : main (F := F) c = Pipeline.Seg.run (segs m) := (main_chain c).trans (by chain_rfl)

variable (ρ : Dev nD → PrngReg)

-- the launch theorem's implicit arguments are found by unifying its conclusion, which unfolds plain definitions
set_option backward.isDefEq.respectTransparency.types false in
/-- From any memory with zero counters the program ends, every buffer that outlives the calls at `W5`, every counter
    at zero. -/
theorem run : θ_run defs (onTc (τ := τ) (main (F := F))) ⟨m, fun _ => 0, ρ⟩ (fun r =>
      (∀ c : Dev nD, ∀ b ∈ Pipeline.ucRefs τ sig, r.2.mem ((c.tc : Thread nD τ).1, b) = W5 m c b) ∧ r.2.sem = fun _ => 0) :=
  Pipeline.θ_run_regions_kit_sems (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h hz => ⟨h, funext fun g => hz g (.inr (regions_no_unscoped g.2))⟩)

end Cert.KernelIdeal.Whole

end
-- ==== Proof.Frames.lean ====
module

public import proofs.«01_k».proof.Defs
public import proofs.«01_k».proof.Proof.Transfer
public import proofs.«01_k».proof.Proof.Whole
public import proofs.«01_k».proof.Proof.Gen.ReferenceIdeal
public import proofs.«01_k».proof.Proof.Gen.ReferenceIdeal.Run
public import Idealize.ShloMosaic.Lib.Quiescent

/-! # The three frames

Each program ends, leaves its sixteen arguments as they were, and every semaphore counter at zero. The kernel's two
prints share one run; the reference declares no semaphore. -/

@[expose] public section

set_option maxRecDepth 16384
set_option maxHeartbeats 2000000

noncomputable section

open Idealize.ShloMosaic Idealize.SL.Sem

namespace Cert.Frames

attribute [local instance] Cert.Kernel.Gen.facts Cert.KernelIdeal.Gen.facts Cert.ReferenceIdeal.Gen.facts

variable {F : FTy → Type} [FloatOps F]

section
open Cert.KernelIdeal Cert.KernelIdeal.Whole

/-- An argument's buffer, in a state whose lasting buffers are as the run leaves them, holds what it held. -/
theorem kept {m : (ℓ : Loc nD τ sig) → Buf (Elt F) ℓ} {mem : (ℓ : Loc nD τ sig) → Buf (Elt F) ℓ} {c : Dev nD}
    (h : ∀ b ∈ Pipeline.ucRefs τ sig, mem ((c.tc : Thread nD τ).1, b) = W5 m c b) (a : Ref sig .tc)
    (hs : ¬ (Proc.devRef .tc a : DevRef τ sig).isScoped) (ha : a ∈ argRefs) :
    mem ((c.tc : Thread nD τ).loc a) = m ((c.tc : Thread nD τ).loc a) :=
  (h _ (mem_uc a hs)).trans (W5_args m c a ha)

/-- The idealized kernel's frame. -/
theorem kernelIdeal : Cert.quiescent_KernelIdeal := fun m g _ =>
  (θ_run defs _ _).mono (fun _ h => ⟨fun c => by
    have k := kept (h.1 c)
    exact ⟨k main_arg0 (by decide) (by decide), k main_arg1 (by decide) (by decide), k main_arg2 (by decide) (by decide),
      k main_arg3 (by decide) (by decide), k main_arg4 (by decide) (by decide), k main_arg5 (by decide) (by decide),
      k main_arg6 (by decide) (by decide), k main_arg7 (by decide) (by decide), k main_arg8 (by decide) (by decide),
      k main_arg9 (by decide) (by decide), k main_arg10 (by decide) (by decide), k main_arg11 (by decide) (by decide),
      k main_arg12 (by decide) (by decide), k main_arg13 (by decide) (by decide), k main_arg14 (by decide) (by decide),
      k main_arg15 (by decide) (by decide)⟩, h.2⟩) (run m g)

end

/-- The kernel's frame at bit patterns: the same run, read through the equality of the two prints. -/
theorem kernel : Cert.quiescent_Kernel := fun m g _ => by
  rw [Transfer.defs_eq, Transfer.main_eq]
  refine (θ_run (Cert.KernelIdeal.defs (F := Bits)) _ _).mono (fun _ h => ⟨fun c => ?_, h.2⟩) (Cert.KernelIdeal.Whole.run (F := Bits) m g)
  have k := kept (F := Bits) (h.1 c)
  exact ⟨k Cert.KernelIdeal.main_arg0 (by decide) (by decide), k Cert.KernelIdeal.main_arg1 (by decide) (by decide),
    k Cert.KernelIdeal.main_arg2 (by decide) (by decide), k Cert.KernelIdeal.main_arg3 (by decide) (by decide),
    k Cert.KernelIdeal.main_arg4 (by decide) (by decide), k Cert.KernelIdeal.main_arg5 (by decide) (by decide),
    k Cert.KernelIdeal.main_arg6 (by decide) (by decide), k Cert.KernelIdeal.main_arg7 (by decide) (by decide),
    k Cert.KernelIdeal.main_arg8 (by decide) (by decide), k Cert.KernelIdeal.main_arg9 (by decide) (by decide),
    k Cert.KernelIdeal.main_arg10 (by decide) (by decide), k Cert.KernelIdeal.main_arg11 (by decide) (by decide),
    k Cert.KernelIdeal.main_arg12 (by decide) (by decide), k Cert.KernelIdeal.main_arg13 (by decide) (by decide),
    k Cert.KernelIdeal.main_arg14 (by decide) (by decide), k Cert.KernelIdeal.main_arg15 (by decide) (by decide)⟩

/-- The reference's frame. -/
theorem referenceIdeal : Cert.quiescent_ReferenceIdeal := fun m g _ =>
  (θ_run Cert.ReferenceIdeal.defs _ _).mono
    (fun r h => ⟨fun c => (h c).2.2.2, sem_eq_zero_of_no_sems (by decide) r.2⟩) (Cert.ReferenceIdeal.Value.run (F := Ideal) m g)

end Cert.Frames

end
-- ==== Proof.Maths.lean ====
module

public import Idealize.ShloMosaic.Lib.Pointwise

/-! # The mathematics, over extended reals

What both programs compute, written as sums over the arguments' elements: the projections of the item features, the
two products with a graph matrix, the gate, and the scores. Nothing here speaks of blocks or of buffers. -/

@[expose] public section

noncomputable section

namespace Cert.Maths

open Idealize.ShloMosaic

/-- An array of extended reals of `n` rows and `k` columns. -/
abbrev Mat (n k : ℕ) : Type := Vec Ideal ⟨2, ![n, k]⟩ .f32

/-- Features times weights plus bias: `x · W + b`, the bias added to every row. -/
def proj {n d e : ℕ} (x : Mat n d) (W : Mat d e) (b : Vec Ideal ⟨1, ![e]⟩ .f32) : Mat n e := fun y =>
  (∑ k : Fin d, (x (ix2 (y 0) k) * W (ix2 k (y 1)) : EReal)) + b (ix1 (y 1))

/-- The same with the weights given transposed and the bias as a row. -/
def projRow {n d e : ℕ} (x : Mat n d) (W : Mat e d) (b : Mat 1 e) : Mat n e := fun y =>
  (∑ k : Fin d, (x (ix2 (y 0) k) * W (ix2 (y 1) k) : EReal)) + b (ix2 0 (y 1))

/-- An index of a two-dimensional array is its row and its column. -/
theorem exists_ix2 {n k : ℕ} (y : (⟨2, ![n, k]⟩ : Shape).Idx) : ∃ (i : Fin n) (j : Fin k), y = ix2 i j :=
  ⟨y 0, y 1, funext fun a => match a with | ⟨0, _⟩ => rfl | ⟨1, _⟩ => rfl⟩

/-- Two arrays that agree at every row and column are equal. -/
theorem ext2 {n k : ℕ} {x y : Mat n k} (h : ∀ i j, x (ix2 i j) = y (ix2 i j)) : x = y := by
  funext z
  obtain ⟨i, j, rfl⟩ := exists_ix2 z
  exact h i j

/-- Both forms of the projection agree when the weights are transposes and the biases equal. -/
theorem projRow_eq {n d e : ℕ} (x : Mat n d) (W : Mat e d) (b : Mat 1 e) (W' : Mat d e) (b' : Vec Ideal ⟨1, ![e]⟩ .f32)
    (hW : ∀ i k, W (ix2 i k) = W' (ix2 k i)) (hb : ∀ i, b (ix2 0 i) = b' (ix1 i)) : projRow x W b = proj x W' b' := by
  refine ext2 fun i j => ?_
  simp only [projRow, proj, ix2_0, ix2_1, hW, hb]

/-- The matrix product. -/
def prod {n d e : ℕ} (A : Mat n d) (x : Mat d e) : Mat n e := fun y =>
  ∑ k : Fin d, (A (ix2 (y 0) k) * x (ix2 k (y 1)) : EReal)

/-- One component of the gate: the logistic of the column sum of the halved sum of two arrays. -/
def gate {n e : ℕ} (hi ht : Mat n e) (j : Fin e) : EReal :=
  Ideal.logistic (∑ i : Fin n, (((hi (ix2 i j) : EReal) + ht (ix2 i j)) * Ideal.ofBits .f32 0x3F000000#32 : EReal))

/-- The bilinear score of the gate and row `i` of `x`. -/
def score {n e : ℕ} (g : Fin e → EReal) (W : Vec Ideal ⟨3, ![1, e, e]⟩ .f32) (b : Vec Ideal ⟨1, ![1]⟩ .f32)
    (x : Mat n e) (i : Fin n) : EReal :=
  (∑ d : Fin e, (∑ k : Fin e, (g k * W (ix3 0 k d) : EReal)) * (x (ix2 i d) : EReal)) + (b (ix1 0) : EReal)

/-- A score reads one row. -/
theorem score_congr {n n' e : ℕ} (g : Fin e → EReal) (W : Vec Ideal ⟨3, ![1, e, e]⟩ .f32) (b : Vec Ideal ⟨1, ![1]⟩ .f32)
    (x : Mat n e) (x' : Mat n' e) (i : Fin n) (i' : Fin n') (h : ∀ d, x (ix2 i d) = x' (ix2 i' d)) :
    score g W b x i = score g W b x' i' := by
  simp only [score, h]

/-- Two propagations through a graph. -/
def twice {n e : ℕ} (A : Mat n n) (x : Mat n e) : Mat n e := prod A (prod A x)

/-- One list after another. -/
def pair (f g : Fin 4096 → EReal) (i : Fin 8192) : EReal :=
  if h : i.val < 4096 then f ⟨i.val, h⟩ else g ⟨i.val - 4096, by omega⟩

/-- The first half of a pair of lists. -/
theorem pair_low (f g : Fin 4096 → EReal) (i : Fin 8192) (h : i.val < 4096) : pair f g i = f ⟨i.val, h⟩ := dif_pos h
/-- The second half of a pair of lists. -/
theorem pair_high (f g : Fin 4096 → EReal) (i : Fin 8192) (h : ¬ i.val < 4096) :
    pair f g i = g ⟨i.val - 4096, by omega⟩ := dif_neg h

/-- All the scores: those of the propagated image and text features `hi` and `ht`, then those of the raw projections
    `ri` and `rt` at the rows that the tables `tI` and `tT` name. -/
def logits (hi ht ri rt : Mat 4096 32) (tI tT : Fin 4096 → Fin 4096) (W : Vec Ideal ⟨3, ![1, 32, 32]⟩ .f32)
    (b : Vec Ideal ⟨1, ![1]⟩ .f32) : Mat 1 16384 := fun y =>
  if h : (y 1).val < 8192 then pair (score (gate hi ht) W b hi) (score (gate hi ht) W b ht) ⟨(y 1).val, h⟩
  else pair (fun i => score (gate hi ht) W b ri (tI i)) (fun i => score (gate hi ht) W b rt (tT i))
    ⟨(y 1).val - 8192, by have : (y 1).val < 16384 := (y 1).isLt; omega⟩

/-- The first half of the logits: the scores of the propagated features. -/
theorem logits_low (hi ht ri rt : Mat 4096 32) (tI tT : Fin 4096 → Fin 4096) (W : Vec Ideal ⟨3, ![1, 32, 32]⟩ .f32)
    (b : Vec Ideal ⟨1, ![1]⟩ .f32) (j : Fin 16384) (h : j.val < 8192) : logits hi ht ri rt tI tT W b (ix2 0 j) =
      pair (score (gate hi ht) W b hi) (score (gate hi ht) W b ht) ⟨j.val, h⟩ := dif_pos h
/-- The second half of the logits: the scores of the raw features, taken by row numbers. -/
theorem logits_high (hi ht ri rt : Mat 4096 32) (tI tT : Fin 4096 → Fin 4096) (W : Vec Ideal ⟨3, ![1, 32, 32]⟩ .f32)
    (b : Vec Ideal ⟨1, ![1]⟩ .f32) (j : Fin 16384) (h : ¬ j.val < 8192) : logits hi ht ri rt tI tT W b (ix2 0 j) =
      pair (fun i => score (gate hi ht) W b ri (tI i)) (fun i => score (gate hi ht) W b rt (tT i)) ⟨j.val - 8192, by omega⟩ :=
  dif_neg h

end Cert.Maths

end
-- ==== Proof.Payloads.lean ====
module

public import proofs.«01_k».proof.Proof.Gen.KernelIdeal
public import proofs.«01_k».proof.Proof.Gen.KernelIdeal.Skeleton
public import proofs.«01_k».proof.Proof.Maths

/-! # What one block computes, over extended reals

Every value the two kernel bodies store, read at one index: a sum of products over the operands' elements. -/

@[expose] public section

set_option maxRecDepth 16384
set_option maxHeartbeats 1000000

noncomputable section

namespace Cert.KernelIdeal.Payloads

open Cert.KernelIdeal.Gen
open Idealize.ShloMosaic

/-- A block of the image projection: rows of features times the transposed weights, plus the bias. -/
theorem pay8 (x : Vec Ideal S256x512 .f32) (w : Vec Ideal S32x512 .f32) (b : Vec Ideal S1x32 .f32) (i : Fin 256) (j : Fin 32) :
    k0_pay8 x w b (ix2 i j) = (∑ k : Fin 512, (x (ix2 i k) * w (ix2 j k) : EReal)) + b (ix2 0 j) := by
  pointwise [k0_pay8]

/-- The same of the raw image table. -/
theorem pay10 (x : Vec Ideal S256x512 .f32) (w : Vec Ideal S32x512 .f32) (b : Vec Ideal S1x32 .f32) (i : Fin 256) (j : Fin 32) :
    k0_pay1 (k0_pay10 x w b) (ix2 i j) = (∑ k : Fin 512, (x (ix2 i k) * w (ix2 j k) : EReal)) + b (ix2 0 j) := by
  pointwise [k0_pay1, k0_pay10]

/-- A block of the text projection. -/
theorem pay9 (x : Vec Ideal S256x384 .f32) (w : Vec Ideal S32x384 .f32) (b : Vec Ideal S1x32 .f32) (i : Fin 256) (j : Fin 32) :
    k0_pay9 x w b (ix2 i j) = (∑ k : Fin 384, (x (ix2 i k) * w (ix2 j k) : EReal)) + b (ix2 0 j) := by
  pointwise [k0_pay9]

/-- The same of the raw text table. -/
theorem pay2 (x : Vec Ideal S256x384 .f32) (w : Vec Ideal S32x384 .f32) (b : Vec Ideal S1x32 .f32) (i : Fin 256) (j : Fin 32) :
    k0_pay2 x w b (ix2 i j) = (∑ k : Fin 384, (x (ix2 i k) * w (ix2 j k) : EReal)) + b (ix2 0 j) := by
  pointwise [k0_pay2]

/-- A block of rows of a graph matrix times an array: the image side's first layer. -/
theorem pay3 (a : Vec Ideal S512x4096 .f32) (x : Vec Ideal S4096x32 .f32) (i : Fin 512) (j : Fin 32) :
    k0_pay3 a x (ix2 i j) = ∑ k : Fin 4096, (a (ix2 i k) * x (ix2 k j) : EReal) := by
  pointwise [k0_pay3]

/-- The text side's first layer. -/
theorem pay4 (a : Vec Ideal S512x4096 .f32) (x : Vec Ideal S4096x32 .f32) (i : Fin 512) (j : Fin 32) :
    k0_pay4 a x (ix2 i j) = ∑ k : Fin 4096, (a (ix2 i k) * x (ix2 k j) : EReal) := by
  pointwise [k0_pay4]

/-- The image side's second layer. -/
theorem pay5 (a : Vec Ideal S512x4096 .f32) (x : Vec Ideal S4096x32 .f32) (i : Fin 512) (j : Fin 32) :
    k0_pay5 a x (ix2 i j) = ∑ k : Fin 4096, (a (ix2 i k) * x (ix2 k j) : EReal) := by
  pointwise [k0_pay5]

/-- The text side's second layer. -/
theorem pay6 (a : Vec Ideal S512x4096 .f32) (x : Vec Ideal S4096x32 .f32) (i : Fin 512) (j : Fin 32) :
    k0_pay6 a x (ix2 i j) = ∑ k : Fin 4096, (a (ix2 i k) * x (ix2 k j) : EReal) := by
  pointwise [k0_pay6]

/-- The gate times the bilinear weights. -/
theorem pay11 (hi ht : Vec Ideal S4096x32 .f32) (w : Vec Ideal S32x32 .f32) (d : Fin 32) :
    k0_pay11 hi ht w (ix2 0 d) = ∑ k : Fin 32, (Maths.gate hi ht k * w (ix2 k d) : EReal) := by
  pointwise [k0_pay11, Maths.gate]

/-- The score of row `i` of `x` against a vector `v`, plus the bias. -/
theorem pay7 (v : FVec Ideal S1x32 .f32) (b : Ideal .f32) (x : Vec Ideal S4096x32 .f32) (i : Fin 4096) :
    k0_pay7 v b x (ix2 0 i) = (∑ d : Fin 32, (v (ix2 0 d) * x (ix2 i d) : EReal)) + (b : EReal) := by
  pointwise [k0_pay7]

/-- The bias is the one element of its array. -/
theorem pay12 (b : Vec Ideal S1x1 .f32) : k0_pay12 b = b (ix2 0 0) := by
  pointwise [k0_pay12]

/-- The scores of the image embeddings are those of `pay7`. -/
theorem pay13 (hi ht : Vec Ideal S4096x32 .f32) (w : Vec Ideal S32x32 .f32) (b : Vec Ideal S1x1 .f32) :
    k0_pay13 hi ht w b = k0_pay7 (k0_pay11 hi ht w) (k0_pay12 b) hi := rfl
/-- The scores of the text embeddings likewise. -/
theorem pay14 (hi ht : Vec Ideal S4096x32 .f32) (w : Vec Ideal S32x32 .f32) (b : Vec Ideal S1x1 .f32) :
    k0_pay14 hi ht w b = k0_pay7 (k0_pay11 hi ht w) (k0_pay12 b) ht := rfl
/-- The scores of the raw image projection likewise. -/
theorem pay15 (hi ht : Vec Ideal S4096x32 .f32) (w : Vec Ideal S32x32 .f32) (b : Vec Ideal S1x1 .f32) (x : Vec Ideal S4096x32 .f32) :
    k0_pay15 hi ht w b x = k0_pay7 (k0_pay11 hi ht w) (k0_pay12 b) x := rfl

/-- The second call's upper half: the image embeddings, transposed, times a block of the user graph, transposed. -/
theorem pay1_2 (h : Vec Ideal S4096x64 .f32) (a : Vec Ideal S512x4096 .f32) (j : Fin 32) (u : Fin 512) :
    k1_pay2 h a (ix2 j u) = ∑ k : Fin 4096, (h (ix2 k ⟨j.val, by omega⟩) * a (ix2 u k) : EReal) := by
  pointwise [k1_pay2, k1_pay1]

/-- The lower half: the same of the text embeddings. -/
theorem pay1_3 (h : Vec Ideal S4096x64 .f32) (a : Vec Ideal S512x4096 .f32) (j : Fin 32) (u : Fin 512) :
    k1_pay3 h a (ix2 j u) = ∑ k : Fin 4096, (h (ix2 k ⟨32 + j.val, by omega⟩) * a (ix2 u k) : EReal) := by
  pointwise [k1_pay3, k1_pay1]

end Cert.KernelIdeal.Payloads

end
-- ==== Proof.FusedValues.lean ====
module

public import proofs.«01_k».proof.Proof.FusedCall
public import proofs.«01_k».proof.Proof.Payloads
public import Idealize.ShloMosaic.Lib.Pipeline.ValueKit

/-! # The first call's arrays, over extended reals

The contents `V` that the call is entered with are arbitrary. The eight scratch arrays, read at an index, are sums
over the call's operands; the blocks disappear. Then what the three output arrays hold after the last point. -/

@[expose] public section

set_option maxRecDepth 16384
set_option maxHeartbeats 200000

noncomputable section

namespace Cert.KernelIdeal.FusedCall

open Cert.KernelIdeal.Gen
open Cert.KernelIdeal.UserCall (Contents)
open Idealize.ShloMosaic Idealize.ShloMosaic.TcCoe Idealize.SL.Sem
open Cert.Maths (Mat)

variable (V : Contents Ideal) (c : Dev nD)

/-! ## Which block each point reads -/

/-- Which block of the two graphs each point reads. -/
theorem index_adj : ∀ t : Fin cfg0.N,
    win0_0.index t = ![if t.val < 24 then t.val - 16 else min (t.val - 24) 7, 0]
    ∧ win0_1.index t = ![if t.val < 24 then t.val - 16 else min (t.val - 24) 7, 0] :=
  (by decide +kernel : ∀ t : Fin grid0.N, _)
/-- Which block of the four feature tables each point reads. -/
theorem index_tab : ∀ t : Fin cfg0.N,
    win0_2.index t = ![min t.val 15, 0] ∧ win0_3.index t = ![min t.val 15, 0]
    ∧ win0_4.index t = ![min t.val 15, 0] ∧ win0_5.index t = ![min t.val 15, 0] :=
  (by decide +kernel : ∀ t : Fin grid0.N, _)
/-- The other six inputs are read whole at every point. -/
theorem index_whole : ∀ t : Fin cfg0.N,
    win0_6.index t = ![0, 0] ∧ win0_7.index t = ![0, 0] ∧ win0_8.index t = ![0, 0]
    ∧ win0_9.index t = ![0, 0] ∧ win0_10.index t = ![0, 0] ∧ win0_11.index t = ![0, 0] :=
  (by decide +kernel : ∀ t : Fin grid0.N, _)

/-- The number of the `n`-th point is `n`. -/
theorem pt_lt (n : ℕ) (h : n < 33) : (pt n).val = n := Nat.mod_eq_of_lt h

/-- The image graph's block at a point of either layer. -/
theorem blk_adjI (s n : ℕ) (hs : s = 16 ∨ s = 24) (hn : n < 8) (i : Fin 512) (k : Fin 4096) :
    blk V c 0 (pt (s + n)) (ix2 i k) = (V c main_arg1 : Mat 4096 4096) (ix2 ⟨512 * n + i.val, by omega⟩ k) := by
  have h := (index_adj (pt (s + n))).1
  have e := pt_lt (s + n) (by omega)
  rw [e] at h
  have h' : win0_0.index (pt (s + n)) = ![n, 0] := by rw [h]; congr 1; split <;> omega
  blk_ext [blk, h']

/-- The text graph's block likewise. -/
theorem blk_adjT (s n : ℕ) (hs : s = 16 ∨ s = 24) (hn : n < 8) (i : Fin 512) (k : Fin 4096) :
    blk V c 1 (pt (s + n)) (ix2 i k) = (V c main_arg3 : Mat 4096 4096) (ix2 ⟨512 * n + i.val, by omega⟩ k) := by
  have h := (index_adj (pt (s + n))).2
  have e := pt_lt (s + n) (by omega)
  rw [e] at h
  have h' : win0_1.index (pt (s + n)) = ![n, 0] := by rw [h]; congr 1; split <;> omega
  blk_ext [blk, h']

/-- The four feature tables' blocks at a point of the first stage: 256 rows each. -/
theorem blk_tabI (n : ℕ) (hn : n < 16) (i : Fin 256) (k : Fin 512) :
    blk V c 2 (pt n) (ix2 i k) = (V c main_arg6 : Mat 4096 512) (ix2 ⟨256 * n + i.val, by omega⟩ k) := by
  have h' : win0_2.index (pt n) = ![n, 0] := by
    rw [(index_tab (pt n)).1, pt_lt n (by omega)]; congr 1; omega
  blk_ext [blk, h']
/-- The text table's block at a projection point. -/
theorem blk_tabT (n : ℕ) (hn : n < 16) (i : Fin 256) (k : Fin 384) :
    blk V c 3 (pt n) (ix2 i k) = (V c main_arg7 : Mat 4096 384) (ix2 ⟨256 * n + i.val, by omega⟩ k) := by
  have h' : win0_3.index (pt n) = ![n, 0] := by
    rw [(index_tab (pt n)).2.1, pt_lt n (by omega)]; congr 1; omega
  blk_ext [blk, h']
/-- The raw image table's block at a projection point. -/
theorem blk_rawI (n : ℕ) (hn : n < 16) (i : Fin 256) (k : Fin 512) :
    blk V c 4 (pt n) (ix2 i k) = (V c main_arg8 : Mat 4096 512) (ix2 ⟨256 * n + i.val, by omega⟩ k) := by
  have h' : win0_4.index (pt n) = ![n, 0] := by
    rw [(index_tab (pt n)).2.2.1, pt_lt n (by omega)]; congr 1; omega
  blk_ext [blk, h']
/-- The raw text table's block at a projection point. -/
theorem blk_rawT (n : ℕ) (hn : n < 16) (i : Fin 256) (k : Fin 384) :
    blk V c 5 (pt n) (ix2 i k) = (V c main_arg9 : Mat 4096 384) (ix2 ⟨256 * n + i.val, by omega⟩ k) := by
  have h' : win0_5.index (pt n) = ![n, 0] := by
    rw [(index_tab (pt n)).2.2.2, pt_lt n (by omega)]; congr 1; omega
  blk_ext [blk, h']

/-- The small operands are read whole at every point. -/
theorem blk_wI (t : Fin cfg0.N) (i : Fin 32) (k : Fin 512) :
    blk V c 6 t (ix2 i k) = (V c main_v0 : Mat 32 512) (ix2 i k) := by
  have h' := (index_whole t).1
  blk_ext [blk, h']
/-- The image bias, whole. -/
theorem blk_bI (t : Fin cfg0.N) (k : Fin 32) : blk V c 7 t (ix2 0 k) = (V c main_v1 : Mat 1 32) (ix2 0 k) := by
  have h' := (index_whole t).2.1
  blk_ext [blk, h']
/-- The text weights, whole. -/
theorem blk_wT (t : Fin cfg0.N) (i : Fin 32) (k : Fin 384) :
    blk V c 8 t (ix2 i k) = (V c main_v2 : Mat 32 384) (ix2 i k) := by
  have h' := (index_whole t).2.2.1
  blk_ext [blk, h']
/-- The text bias, whole. -/
theorem blk_bT (t : Fin cfg0.N) (k : Fin 32) : blk V c 9 t (ix2 0 k) = (V c main_v3 : Mat 1 32) (ix2 0 k) := by
  have h' := (index_whole t).2.2.2.1
  blk_ext [blk, h']
/-- The bilinear form's weights, whole. -/
theorem blk_bil (t : Fin cfg0.N) (i k : Fin 32) : blk V c 10 t (ix2 i k) = (V c main_v4 : Mat 32 32) (ix2 i k) := by
  have h' := (index_whole t).2.2.2.2.1
  blk_ext [blk, h']
/-- The bilinear form's bias. -/
theorem blk_bb (t : Fin cfg0.N) : blk V c 11 t (ix2 0 0) = (V c main_v5 : Mat 1 1) (ix2 0 0) := by
  have h' := (index_whole t).2.2.2.2.2
  blk_ext [blk, h']

/-! ## The scratch arrays -/

/-- An array joined from blocks of 256 rows, at a row and a column. -/
theorem joined256_apply (p : ℕ → Vec Ideal S256x32 .f32) (i : Fin 4096) (j : Fin 32) :
    joined256 p (ix2 i j) = p (i.val / 256) (ix2 ⟨i.val % 256, Nat.mod_lt _ (by decide)⟩ j) := rfl
/-- The same of blocks of 512 rows. -/
theorem joined512_apply (p : ℕ → Vec Ideal S512x32 .f32) (i : Fin 4096) (j : Fin 32) :
    joined512 p (ix2 i j) = p (i.val / 512) (ix2 ⟨i.val % 512, Nat.mod_lt _ (by decide)⟩ j) := rfl

/-- A row number, split into a block of 256 rows and a row in it. -/
theorem split256 (i : Fin 4096) : i.val / 256 < 16 ∧ (⟨256 * (i.val / 256) + i.val % 256, by omega⟩ : Fin 4096) = i :=
  ⟨by omega, Fin.ext (by simp only; omega)⟩
/-- A row number, split into a block of 512 rows and a row in it. -/
theorem split512 (i : Fin 4096) : i.val / 512 < 8 ∧ (⟨512 * (i.val / 512) + i.val % 512, by omega⟩ : Fin 4096) = i :=
  ⟨by omega, Fin.ext (by simp only; omega)⟩

/-- The four projections are those of the whole tables. -/
theorem projI_eq : projI V c =
    Maths.projRow (V c main_arg6 : Mat 4096 512) (V c main_v0 : Mat 32 512) (V c main_v1 : Mat 1 32) := by
  refine Maths.ext2 fun i j => ?_
  obtain ⟨h1, h2⟩ := split256 i
  rw [projI, joined256_apply, Payloads.pay8, blk_bI]
  simp only [blk_tabI V c _ h1, blk_wI, h2]
  rfl
/-- The projected text table. -/
theorem projT_eq : projT V c =
    Maths.projRow (V c main_arg7 : Mat 4096 384) (V c main_v2 : Mat 32 384) (V c main_v3 : Mat 1 32) := by
  refine Maths.ext2 fun i j => ?_
  obtain ⟨h1, h2⟩ := split256 i
  rw [projT, joined256_apply, Payloads.pay9, blk_bT]
  simp only [blk_tabT V c _ h1, blk_wT, h2]
  rfl
/-- The projected raw image table. -/
theorem rawI_eq : rawI V c =
    Maths.projRow (V c main_arg8 : Mat 4096 512) (V c main_v0 : Mat 32 512) (V c main_v1 : Mat 1 32) := by
  refine Maths.ext2 fun i j => ?_
  obtain ⟨h1, h2⟩ := split256 i
  rw [rawI, joined256_apply, Payloads.pay10, blk_bI]
  simp only [blk_rawI V c _ h1, blk_wI, h2]
  rfl
/-- The projected raw text table. -/
theorem rawT_eq : rawT V c =
    Maths.projRow (V c main_arg9 : Mat 4096 384) (V c main_v2 : Mat 32 384) (V c main_v3 : Mat 1 32) := by
  refine Maths.ext2 fun i j => ?_
  obtain ⟨h1, h2⟩ := split256 i
  rw [rawT, joined256_apply, Payloads.pay2, blk_bT]
  simp only [blk_rawT V c _ h1, blk_wT, h2]
  rfl

/-- The two layers are products with the whole graph matrices. -/
theorem onceI_eq : onceI V c = Maths.prod (V c main_arg1 : Mat 4096 4096) (projI V c) := by
  refine Maths.ext2 fun i j => ?_
  obtain ⟨h1, h2⟩ := split512 i
  rw [onceI, joined512_apply, Payloads.pay3]
  simp only [blk_adjI V c 16 _ (.inl rfl) h1, h2]
  rfl
/-- The text features after one product with the text graph. -/
theorem onceT_eq : onceT V c = Maths.prod (V c main_arg3 : Mat 4096 4096) (projT V c) := by
  refine Maths.ext2 fun i j => ?_
  obtain ⟨h1, h2⟩ := split512 i
  rw [onceT, joined512_apply, Payloads.pay4]
  simp only [blk_adjT V c 16 _ (.inl rfl) h1, h2]
  rfl
/-- The image features after two products with the image graph. -/
theorem twiceI_eq : twiceI V c = Maths.prod (V c main_arg1 : Mat 4096 4096) (onceI V c) := by
  refine Maths.ext2 fun i j => ?_
  obtain ⟨h1, h2⟩ := split512 i
  rw [twiceI, joined512_apply, Payloads.pay5]
  simp only [blk_adjI V c 24 _ (.inr rfl) h1, h2]
  rfl
/-- The text features after two products with the text graph. -/
theorem twiceT_eq : twiceT V c = Maths.prod (V c main_arg3 : Mat 4096 4096) (onceT V c) := by
  refine Maths.ext2 fun i j => ?_
  obtain ⟨h1, h2⟩ := split512 i
  rw [twiceT, joined512_apply, Payloads.pay6]
  simp only [blk_adjT V c 24 _ (.inr rfl) h1, h2]
  rfl

/-! ## The outputs -/

/-- Two arrays stored side by side in 64 columns: the left half reads the first. -/
theorem cols_left (p q : Vec Ideal S4096x32 .f32) (i : Fin 4096) (j : Fin 32) :
    View.canon [⟨colR, q⟩, ⟨colL, p⟩] (ix2 (n1 := 64) i ⟨j.val, by omega⟩) = p (ix2 i j) := by
  canon_tiles x h
  all_goals simp only [ix2_0, ix2_1] at h0 h1
  · omega
  · blk_ext []

/-- The right half reads the second. -/
theorem cols_right (p q : Vec Ideal S4096x32 .f32) (i : Fin 4096) (j : Fin 32) :
    View.canon [⟨colR, q⟩, ⟨colL, p⟩] (ix2 (n1 := 64) i ⟨32 + j.val, by omega⟩) = q (ix2 i j) := by
  canon_tiles x h
  all_goals simp only [ix2_0, ix2_1] at h0 h1
  · blk_ext []
  · omega

/-- Two rows stored one after the other: the first half reads the first. -/
theorem row_left (p q : Vec Ideal S1x4096 .f32) (i : Fin 4096) :
    View.canon [⟨rowR, q⟩, ⟨rowL, p⟩] (ix2 (n1 := 8192) 0 ⟨i.val, by omega⟩) = p (ix2 0 i) := by
  canon_tiles x h
  all_goals simp only [ix2_0, ix2_1] at h0 h1
  · omega
  · blk_ext []

/-- The second half reads the second. -/
theorem row_right (p q : Vec Ideal S1x4096 .f32) (i : Fin 4096) :
    View.canon [⟨rowR, q⟩, ⟨rowL, p⟩] (ix2 (n1 := 8192) 0 ⟨4096 + i.val, by omega⟩) = q (ix2 0 i) := by
  canon_tiles x h
  all_goals simp only [ix2_0, ix2_1] at h0 h1
  · blk_ext []
  · omega

/-- Each output's block is the whole array, and the last point writes all of it. -/
theorem whole_out : (cfg0.win 12).WholeAt (pt 32) ∧ (cfg0.win 13).WholeAt (pt 32) ∧ (cfg0.win 14).WholeAt (pt 32) := by
  decide +kernel

/-- The first output array after the call: the two embeddings side by side. -/
theorem arr_embeddings : (dat V c).arrAt 12 cfg0.N = embeddings (twiceI V c) (twiceT V c) := by
  refine (dat V c).arrAt_eq_of_after_last 12 (pt 32) whole_out.1 _ fun j => ?_
  rw [after_embeddings]
  generalize embeddings (twiceI V c) (twiceT V c) = X
  blk_simp
  rfl
/-- The second: the scores of the two embeddings. -/
theorem arr_scores : (dat V c).arrAt 13 cfg0.N =
    scores (twiceI V c) (twiceT V c) (blk V c 10 (pt 32)) (blk V c 11 (pt 32)) := by
  refine (dat V c).arrAt_eq_of_after_last 13 (pt 32) whole_out.2.1 _ fun j => ?_
  rw [after_scores]
  generalize scores (twiceI V c) (twiceT V c) (blk V c 10 (pt 32)) (blk V c 11 (pt 32)) = X
  blk_simp
  rfl
/-- The third: the scores of the two raw projections. -/
theorem arr_rawScores : (dat V c).arrAt 14 cfg0.N =
    rawScores (twiceI V c) (twiceT V c) (rawI V c) (rawT V c) (blk V c 10 (pt 32)) (blk V c 11 (pt 32)) := by
  refine (dat V c).arrAt_eq_of_after_last 14 (pt 32) whole_out.2.2 _ fun j => ?_
  rw [after_rawScores]
  generalize rawScores (twiceI V c) (twiceT V c) (rawI V c) (rawT V c) (blk V c 10 (pt 32)) (blk V c 11 (pt 32)) = X
  blk_simp
  rfl

/-- A score as the body computes it is the bilinear score of the gate. -/
theorem score_eq (hi ht x : Vec Ideal S4096x32 .f32) (W : Vec Ideal ⟨3, ![1, 32, 32]⟩ .f32) (b : Vec Ideal ⟨1, ![1]⟩ .f32)
    (hW : ∀ i k, (V c main_v4 : Mat 32 32) (ix2 i k) = W (ix3 0 i k)) (hb : (V c main_v5 : Mat 1 1) (ix2 0 0) = b (ix1 0))
    (i : Fin 4096) :
    k0_pay7 (k0_pay11 hi ht (blk V c 10 (pt 32))) (k0_pay12 (blk V c 11 (pt 32))) x (ix2 0 i) =
      Maths.score (Maths.gate hi ht) W b x i := by
  rw [Payloads.pay7, Payloads.pay12, blk_bb, hb]
  simp only [Payloads.pay11, blk_bil, hW]
  rfl

end Cert.KernelIdeal.FusedCall

end
-- ==== Proof.UserValues.lean ====
module

public import proofs.«01_k».proof.Proof.UserCall
public import proofs.«01_k».proof.Proof.Payloads
public import Idealize.ShloMosaic.Lib.Pipeline.ValueKit

/-! # The second call's arrays, over extended reals

The contents `V` that the call is entered with are arbitrary. Each output is, transposed, the user graph times one half
of the item embeddings' columns. -/

@[expose] public section

set_option maxRecDepth 16384

noncomputable section

namespace Cert.KernelIdeal.UserCall

open Cert.KernelIdeal.Gen
open Idealize.ShloMosaic Idealize.ShloMosaic.TcCoe Idealize.SL.Sem
open Cert.Maths (Mat)

variable (V : Contents Ideal) (c : Dev nD)

/-- Which block of each array a point uses. -/
theorem index_all : ∀ t : Fin cfg1.N, win1_0.index t = ![t.val, 0] ∧ win1_1.index t = ![0, 0]
    ∧ win1_2.index t = ![0, t.val] ∧ win1_3.index t = ![0, t.val] :=
  (by decide +kernel : ∀ t : Fin grid1.N, _)
/-- The call has 16 points. -/
theorem lt16 (t : Fin cfg1.N) : t.val < 16 := Nat.lt_of_lt_of_eq t.isLt (by decide)

/-- The user graph's block at point `t`: rows `512 t` and on. -/
theorem blk_graph (t : Fin cfg1.N) (i : Fin 512) (k : Fin 4096) :
    blk V c 0 t (ix2 i k) = (V c main_arg4 : Mat 8192 4096) (ix2 ⟨512 * t.val + i.val, by have := lt16 t; omega⟩ k) := by
  have h := (index_all t).1
  have := lt16 t
  blk_ext [blk, h]
/-- The embeddings are read whole. -/
theorem blk_items (t : Fin cfg1.N) (i : Fin 4096) (k : Fin 64) :
    blk V c 1 t (ix2 i k) = (V c main_v6_0 : Mat 4096 64) (ix2 i k) := by
  have h := (index_all t).2.1
  blk_ext [blk, h]

/-- A store through the whole output buffer reads back as stored. -/
theorem canon_out (p : Vec Ideal S32x512 .f32) (j : Fin 32) (u : Fin 512) :
    View.canon [⟨rOut, p⟩] (ix2 j u) = p (ix2 j u) := by
  canon_tiles x h
  all_goals simp only [ix2_0, ix2_1] at h0 h1
  blk_ext []
/-- Reading the item embeddings whole gives them. -/
theorem ld_items (z : Vec Ideal S4096x64 .f32) : View.ld z rItems = z := by
  refine Maths.ext2 fun i j => ?_
  pointwise
/-- Reading the user graph's block whole gives it. -/
theorem ld_users (x : Vec Ideal S512x4096 .f32) : View.ld x rUsers = x := by
  refine Maths.ext2 fun i j => ?_
  pointwise

/-- The first output's block at point `t`: entry `(j, u)` is row `512 t + u` of the graph times column `j` of `h`. -/
theorem upper_apply (h : Mat 4096 32)
    (hh : ∀ (k : Fin 4096) (j : Fin 32), (V c main_v6_0 : Mat 4096 64) (ix2 k ⟨j.val, by omega⟩) = h (ix2 k j))
    (t : Fin cfg1.N) (j : Fin 32) (u : Fin 512) :
    upper (blk V c 0 t) (blk V c 1 t) (ix2 j u) = Maths.prod (V c main_arg4 : Mat 8192 4096) h
      (ix2 ⟨512 * t.val + u.val, by have := lt16 t; omega⟩ j) := by
  rw [upper, canon_out, Payloads.pay1_2, ld_items, ld_users, Maths.prod]
  refine Finset.sum_congr rfl fun k _ => ?_
  rw [blk_items, blk_graph, hh, ix2_0, ix2_1]
  exact mul_comm (G := EReal) _ _
/-- The second's reads column `32 + j`. -/
theorem lower_apply (h : Mat 4096 32)
    (hh : ∀ (k : Fin 4096) (j : Fin 32), (V c main_v6_0 : Mat 4096 64) (ix2 k ⟨32 + j.val, by omega⟩) = h (ix2 k j))
    (t : Fin cfg1.N) (j : Fin 32) (u : Fin 512) :
    lower (blk V c 0 t) (blk V c 1 t) (ix2 j u) = Maths.prod (V c main_arg4 : Mat 8192 4096) h
      (ix2 ⟨512 * t.val + u.val, by have := lt16 t; omega⟩ j) := by
  rw [lower, canon_out, Payloads.pay1_3, ld_items, ld_users, Maths.prod]
  refine Finset.sum_congr rfl fun k _ => ?_
  rw [blk_items, blk_graph, hh, ix2_0, ix2_1]
  exact mul_comm (G := EReal) _ _

/-- The transpose of a matrix of users' features. -/
def turned (X : Mat 8192 32) : Mat 32 8192 := fun y => X (ix2 (y 1) (y 0))

/-- A transposed array, read at an index. -/
theorem turned_apply (X : Mat 8192 32) (j : Fin 32) (u : Fin 8192) : turned X (ix2 j u) = X (ix2 u j) := rfl

/-- The first output: the graph times the first 32 columns, transposed. -/
theorem arr_upper (h : Mat 4096 32)
    (hh : ∀ (k : Fin 4096) (j : Fin 32), (V c main_v6_0 : Mat 4096 64) (ix2 k ⟨j.val, by omega⟩) = h (ix2 k j)) :
    (dat V c).arrAt 2 cfg1.N = turned (Maths.prod (V c main_arg4 : Mat 8192 4096) h) := by
  refine (dat V c).arrAt_eq_of_covers 2 _ (by decide +kernel) fun t hf y => ?_
  obtain ⟨j, u, rfl⟩ := Maths.exists_ix2 (n := 32) (k := 512) y
  have e := (index_all t).2.2.1
  have := lt16 t
  have hu := upper_apply V c h hh t j u
  rw [after_upper]
  generalize upper (blk V c 0 t) (blk V c 1 t) = X at hu ⊢
  generalize Maths.prod (V c main_arg4 : Mat 8192 4096) h = Y at hu ⊢
  blk_simp
  rw [hu, ← turned_apply Y]
  blk_ext [e]

/-- The second output: the graph times the last 32 columns, transposed. -/
theorem arr_lower (h : Mat 4096 32)
    (hh : ∀ (k : Fin 4096) (j : Fin 32), (V c main_v6_0 : Mat 4096 64) (ix2 k ⟨32 + j.val, by omega⟩) = h (ix2 k j)) :
    (dat V c).arrAt 3 cfg1.N = turned (Maths.prod (V c main_arg4 : Mat 8192 4096) h) := by
  refine (dat V c).arrAt_eq_of_covers 3 _ (by decide +kernel) fun t hf y => ?_
  obtain ⟨j, u, rfl⟩ := Maths.exists_ix2 (n := 32) (k := 512) y
  have e := (index_all t).2.2.2
  have := lt16 t
  have hu := lower_apply V c h hh t j u
  rw [after_lower]
  generalize lower (blk V c 0 t) (blk V c 1 t) = X at hu ⊢
  generalize Maths.prod (V c main_arg4 : Mat 8192 4096) h = Y at hu ⊢
  blk_simp
  rw [hu, ← turned_apply Y]
  blk_ext [e]

end Cert.KernelIdeal.UserCall

end
-- ==== Proof.HostValues.lean ====
module

public import proofs.«01_k».proof.Proof.Whole
public import proofs.«01_k».proof.Proof.Maths
public import Idealize.ShloMosaic.Lib.StableHlo.ReadAt
public import Idealize.ShloMosaic.Lib.StableHlo.Predicate
public import Idealize.ShloMosaic.Lib.Routing.OpsPair

/-! # What the host operations leave, over extended reals

Before the first call: the weights transposed and the biases as rows. After it: the scores and, taken by the table's row
numbers, the raw scores. After the second call: the users' features transposed back. -/

@[expose] public section

set_option maxRecDepth 16384

noncomputable section

namespace Cert.KernelIdeal.HostValues

open Cert.KernelIdeal.Gen hiding V0 V1 V2 V3 V4 V5
open Idealize.ShloMosaic Idealize.ShloMosaic.TcCoe Idealize.SL.Sem
open Cert.Maths (Mat)

variable (V : Valuation τ sig (Elt Ideal))

/-- The image weights, transposed. -/
theorem v0_at (i : Fin 32) (k : Fin 512) : (StableHlo.after hostOps0 V (Proc.devRef .tc main_v0) : Mat 32 512) (ix2 i k) =
    (V (Proc.devRef .tc main_arg10) : Mat 512 32) (ix2 k i) := by after_reads_at
/-- The image bias as a row. -/
theorem v1_at (i : Fin 32) : (StableHlo.after hostOps0 V (Proc.devRef .tc main_v1) : Mat 1 32) (ix2 0 i) =
    (V (Proc.devRef .tc main_arg11) : Vec Ideal ⟨1, ![32]⟩ .f32) (ix1 i) := by after_reads_at
/-- The text weights, transposed. -/
theorem v2_at (i : Fin 32) (k : Fin 384) : (StableHlo.after hostOps0 V (Proc.devRef .tc main_v2) : Mat 32 384) (ix2 i k) =
    (V (Proc.devRef .tc main_arg12) : Mat 384 32) (ix2 k i) := by after_reads_at
/-- The text bias as a row. -/
theorem v3_at (i : Fin 32) : (StableHlo.after hostOps0 V (Proc.devRef .tc main_v3) : Mat 1 32) (ix2 0 i) =
    (V (Proc.devRef .tc main_arg13) : Vec Ideal ⟨1, ![32]⟩ .f32) (ix1 i) := by after_reads_at
/-- The bilinear form's weights without their leading dimension. -/
theorem v4_at (i k : Fin 32) : (StableHlo.after hostOps0 V (Proc.devRef .tc main_v4) : Mat 32 32) (ix2 i k) =
    (V (Proc.devRef .tc main_arg14) : Vec Ideal ⟨3, ![1, 32, 32]⟩ .f32) (ix3 0 i k) := by after_reads_at
/-- The bilinear form's bias as a 1×1 array. -/
theorem v5_at : (StableHlo.after hostOps0 V (Proc.devRef .tc main_v5) : Mat 1 1) (ix2 0 0) =
    (V (Proc.devRef .tc main_arg15) : Vec Ideal ⟨1, ![1]⟩ .f32) (ix1 0) := by after_reads_at
/-- The table of row numbers. -/
theorem c_at (j : Fin 8192) : (StableHlo.after hostOps0 V (Proc.devRef .tc main_c) : IVec ⟨1, ![8192]⟩ 32) (ix1 j) = lit0 j := by
  after_reads_simp
  exact congrArg lit0 (Fin.ext (Shape.rowMajor_val_one _))

/-- Columns taken by number: where the list holds at `j` a column number `b`, entry `j` is the row's entry `b`. -/
theorem gather_at {α : Type} (x : S1x8192.Idx → α) (idx : IVec S8192x1 32) (j b : Fin 8192)
    (hb : idx (ix2 j 0) = BitVec.ofNat 32 b.val) :
    Host.gather gather_S1x8192_S8192x1_S1x8192_0_1_n_n_1_1_11 x idx (ix2 0 j) = x (ix2 0 b) := by
  unfold Host.gather
  refine congrArg x (funext fun a => ?_)
  match a with
  | ⟨0, _⟩ => exact Subsingleton.elim (α := Fin 1) _ _
  | ⟨1, _⟩ =>
    refine Fin.ext ?_
    show GatherDims.start _ _ idx 1 + GatherDims.batchCoord _ _ 1 + GatherDims.offCoord _ _ 1 = b.val
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (1 : Fin 2) ∈ gather_S1x8192_S8192x1_S1x8192_0_1_n_n_1_1_11.startIndexMap from List.mem_singleton.mpr rfl)]
    have hsi : GatherDims.siIdx gather_S1x8192_S8192x1_S1x8192_0_1_n_n_1_1_11 (ix2 0 j)
        ⟨List.idxOf (1 : Fin 2) [(1 : Fin 2)], List.idxOf_lt_length_iff.2 (List.mem_singleton.mpr rfl)⟩ = ix2 j 0 := by
      funext d
      refine Fin.ext ?_
      match d with
      | ⟨0, _⟩ => rfl
      | ⟨1, _⟩ => rfl
    have ht : (BitVec.ofNat 32 b.val).toInt = b.val := by
      have hn : (BitVec.ofNat 32 b.val).toNat = b.val := by rw [BitVec.toNat_ofNat]; omega
      rw [StableHlo.Predicate.toInt_eq_toNat_of_lt (by omega), hn]
    refine (congrArg (fun z => min (idx z).toInt.toNat (8192 - 1) + 0 + 0) hsi).trans ?_
    show min (idx (ix2 j 0)).toInt.toNat (8192 - 1) + 0 + 0 = b.val
    rw [hb, ht]
    have := b.isLt
    omega

/-- The first result: the scores, then the raw scores at the row numbers. -/
theorem v14_at (rows : Fin 8192 → Fin 8192)
    (hc : ∀ j, (V (Proc.devRef .tc main_c) : IVec ⟨1, ![8192]⟩ 32) (ix1 j) = BitVec.ofNat 32 (rows j).val) (j : Fin 16384) :
    (StableHlo.after hostOps1 V (Proc.devRef .tc main_v14) : Mat 1 16384) (ix2 0 j) =
      if h : j.val < 8192 then (V (Proc.devRef .tc main_v6_1) : Mat 1 8192) (ix2 0 ⟨j.val, h⟩)
      else (V (Proc.devRef .tc main_v6_2) : Mat 1 8192) (ix2 0 (rows ⟨j.val - 8192, by omega⟩)) := by
  after_reads_at
  split
  · rfl
  · refine gather_at _ _ _ _ ?_
    pointwise
    rw [Routing.wrap_of_lt]
    · exact hc _
    · refine (congrArg BitVec.toNat (hc _)).trans_lt ?_
      rw [BitVec.toNat_ofNat]
      omega

/-- The users' image features, transposed back. -/
theorem v16_at (u : Fin 8192) (j : Fin 32) : (StableHlo.after hostOps2 V (Proc.devRef .tc main_v16) : Mat 8192 32) (ix2 u j) =
    (V (Proc.devRef .tc main_v15_0) : Mat 32 8192) (ix2 j u) := by after_reads_at
/-- The users' text features, transposed back. -/
theorem v17_at (u : Fin 8192) (j : Fin 32) : (StableHlo.after hostOps2 V (Proc.devRef .tc main_v17) : Mat 8192 32) (ix2 u j) =
    (V (Proc.devRef .tc main_v15_1) : Mat 32 8192) (ix2 j u) := by after_reads_at

end Cert.KernelIdeal.HostValues

end
-- ==== Proof.Tables.lean ====
module

public import proofs.«01_k».proof.KernelIdeal
public import proofs.«01_k».proof.ReferenceIdeal

/-! # The index tables

The reference gathers rows of the two raw feature tables by two constant tables of 4096 row numbers. The kernel has one
table of 8192: the first as it is, then the second with 4096 added. -/

@[expose] public section

set_option maxRecDepth 16384

namespace Cert.Tables

/-- The kernel's first 4096 entries are the reference's first table, whose entries are row numbers. -/
theorem image : ∀ j : Fin 4096, Cert.KernelIdeal.lit0 ⟨j.val, by omega⟩ = Cert.ReferenceIdeal.lit0 j
    ∧ (Cert.ReferenceIdeal.lit0 j).toNat < 4096 := by
  decide +kernel

/-- The others are the second's, 4096 added. -/
theorem text : ∀ j : Fin 4096, Cert.KernelIdeal.lit0 ⟨4096 + j.val, by omega⟩ = Cert.ReferenceIdeal.lit1 j + 4096#32
    ∧ (Cert.ReferenceIdeal.lit1 j).toNat < 4096 := by
  decide +kernel

end Cert.Tables

end
-- ==== Proof.TableRows.lean ====
module

public import proofs.«01_k».proof.Proof.Tables

/-! # The row numbers that the tables hold -/

@[expose] public section

noncomputable section

namespace Cert.Tables

/-- The row numbers that the reference's two tables hold. -/
def rowI (i : Fin 4096) : Fin 4096 := ⟨(Cert.ReferenceIdeal.lit0 i).toNat, (image i).2⟩
/-- The row number that the reference's second table holds. -/
def rowT (i : Fin 4096) : Fin 4096 := ⟨(Cert.ReferenceIdeal.lit1 i).toNat, (text i).2⟩
/-- The row numbers that the kernel's table holds. -/
def rows (j : Fin 8192) : Fin 8192 :=
  if h : j.val < 4096 then ⟨(rowI ⟨j.val, h⟩).val, by omega⟩ else ⟨4096 + (rowT ⟨j.val - 4096, by omega⟩).val, by omega⟩

/-- A word is the word of its number. -/
theorem word_eq (w : BitVec 32) : w = BitVec.ofNat 32 w.toNat := by simp
/-- The word of a number with 4096 added. -/
theorem word_add (w : BitVec 32) : w + 4096#32 = BitVec.ofNat 32 (4096 + w.toNat) := by
  refine BitVec.eq_of_toNat_eq ?_
  simp only [BitVec.toNat_add, BitVec.toNat_ofNat]
  omega

/-- The first half of the kernel's row numbers. -/
theorem rows_low (j : Fin 8192) (h : j.val < 4096) : rows j = ⟨(rowI ⟨j.val, h⟩).val, by omega⟩ := dif_pos h
/-- The second half of the kernel's row numbers. -/
theorem rows_high (j : Fin 8192) (h : ¬ j.val < 4096) :
    rows j = ⟨4096 + (rowT ⟨j.val - 4096, by omega⟩).val, by omega⟩ := dif_neg h

/-- The kernel's table holds the words of its row numbers. -/
theorem rows_eq (j : Fin 8192) : Cert.KernelIdeal.lit0 j = BitVec.ofNat 32 (rows j).val := by
  by_cases h : j.val < 4096
  · rw [rows_low j h]
    exact (image ⟨j.val, h⟩).1.trans (word_eq _)
  · rw [rows_high j h]
    have ej : j = ⟨4096 + (j.val - 4096), by omega⟩ := Fin.ext (by show j.val = 4096 + (j.val - 4096); omega)
    exact (congrArg Cert.KernelIdeal.lit0 ej).trans ((text ⟨j.val - 4096, by omega⟩).1.trans (word_add _))

end Cert.Tables

end
-- ==== Proof.KernelValues.lean ====
module

public import proofs.«01_k».proof.Proof.Whole
public import proofs.«01_k».proof.Proof.FusedValues
public import proofs.«01_k».proof.Proof.UserValues
public import proofs.«01_k».proof.Proof.HostValues
public import proofs.«01_k».proof.Proof.TableRows

/-! # What the kernel's program computes, over extended reals

The three results at the end of the run, as plain mathematics of the arguments. -/

@[expose] public section

set_option maxRecDepth 16384

noncomputable section

namespace Cert.KernelIdeal.KernelValues

open Cert.KernelIdeal.Gen hiding V0 V1 V2 V3 V4 V5
open Cert.KernelIdeal.Whole
open Idealize.ShloMosaic Idealize.ShloMosaic.TcCoe Idealize.SL.Sem
open Cert.Maths (Mat)

variable (m : (ℓ : Loc nD τ sig) → Buf (Elt Ideal) ℓ) (c : Dev nD)

/-- The argument arrays' contents. -/
abbrev arg (r : Ref sig .tc) : Buf (Elt Ideal) ((c.tc : Thread nD τ).loc r) := m ((c.tc : Thread nD τ).loc r)

/-- The propagated image features. -/
def hidI : Mat 4096 32 := Maths.twice (arg m c main_arg1 : Mat 4096 4096)
  (Maths.proj (arg m c main_arg6 : Mat 4096 512) (arg m c main_arg10) (arg m c main_arg11))
/-- The propagated text features. -/
def hidT : Mat 4096 32 := Maths.twice (arg m c main_arg3 : Mat 4096 4096)
  (Maths.proj (arg m c main_arg7 : Mat 4096 384) (arg m c main_arg12) (arg m c main_arg13))
/-- The projection of the raw image table. -/
def rawI : Mat 4096 32 := Maths.proj (arg m c main_arg8 : Mat 4096 512) (arg m c main_arg10) (arg m c main_arg11)
/-- The projection of the raw text table. -/
def rawT : Mat 4096 32 := Maths.proj (arg m c main_arg9 : Mat 4096 384) (arg m c main_arg12) (arg m c main_arg13)

/-! ## The first call -/

/-- The first call is entered with the arguments as launched. -/
theorem arg_at (a : Ref sig .tc) (ha : a ∈ argRefs) : V1 m c a = arg m c a := W1_args m c a ha

/-- The propagated image features that the first call computes, from the arguments. -/
theorem twiceI_eq : FusedCall.twiceI (V1 m) c = hidI m c := by
  rw [FusedCall.twiceI_eq, FusedCall.onceI_eq, FusedCall.projI_eq, hidI, Maths.twice,
    Maths.projRow_eq _ _ _ (arg m c main_arg10) (arg m c main_arg11) (HostValues.v0_at (W0 m c)) (HostValues.v1_at (W0 m c)),
    arg_at m c main_arg1 (by simp), arg_at m c main_arg6 (by simp)]
/-- The propagated text features that it computes. -/
theorem twiceT_eq : FusedCall.twiceT (V1 m) c = hidT m c := by
  rw [FusedCall.twiceT_eq, FusedCall.onceT_eq, FusedCall.projT_eq, hidT, Maths.twice,
    Maths.projRow_eq _ _ _ (arg m c main_arg12) (arg m c main_arg13) (HostValues.v2_at (W0 m c)) (HostValues.v3_at (W0 m c)),
    arg_at m c main_arg3 (by simp), arg_at m c main_arg7 (by simp)]
/-- The projected raw image features that it computes. -/
theorem rawI_eq : FusedCall.rawI (V1 m) c = rawI m c := by
  rw [FusedCall.rawI_eq, rawI,
    Maths.projRow_eq _ _ _ (arg m c main_arg10) (arg m c main_arg11) (HostValues.v0_at (W0 m c)) (HostValues.v1_at (W0 m c)),
    arg_at m c main_arg8 (by simp)]
/-- The projected raw text features that it computes. -/
theorem rawT_eq : FusedCall.rawT (V1 m) c = rawT m c := by
  rw [FusedCall.rawT_eq, rawT,
    Maths.projRow_eq _ _ _ (arg m c main_arg12) (arg m c main_arg13) (HostValues.v2_at (W0 m c)) (HostValues.v3_at (W0 m c)),
    arg_at m c main_arg9 (by simp)]

/-- Two rows stored one after the other. -/
theorem row_at (p q : Vec Ideal S1x4096 .f32) (i : Fin 8192) :
    View.canon [⟨FusedCall.rowR, q⟩, ⟨FusedCall.rowL, p⟩] (ix2 0 i) =
      Maths.pair (fun k => p (ix2 0 k)) (fun k => q (ix2 0 k)) i := by
  unfold Maths.pair
  split
  · next h => exact FusedCall.row_left p q ⟨i.val, h⟩
  · next h =>
    have e : (⟨4096 + (i.val - 4096), by omega⟩ : Fin 8192) = i := Fin.ext (by simp; omega)
    exact (congrArg (fun k => View.canon [⟨FusedCall.rowR, q⟩, ⟨FusedCall.rowL, p⟩] (ix2 0 k)) e.symm).trans
      (FusedCall.row_right p q ⟨i.val - 4096, by omega⟩)

/-- A score as the body computes it, of any features. -/
theorem score_at (x : Vec Ideal S4096x32 .f32) :
    (fun k => k0_pay7 (k0_pay11 (hidI m c) (hidT m c) (FusedCall.blk (V1 m) c 10 (FusedCall.pt 32)))
      (k0_pay12 (FusedCall.blk (V1 m) c 11 (FusedCall.pt 32))) x (ix2 0 k)) =
    Maths.score (Maths.gate (hidI m c) (hidT m c)) (arg m c main_arg14) (arg m c main_arg15) x :=
  funext fun k => FusedCall.score_eq (V1 m) c _ _ x (arg m c main_arg14) (arg m c main_arg15)
    (HostValues.v4_at (W0 m c)) (HostValues.v5_at (W0 m c)) k

/-- The row of scores of the propagated features that the first call leaves. -/
theorem scores_at (i : Fin 8192) : (W2 m c (Proc.devRef .tc main_v6_1) : Mat 1 8192) (ix2 0 i) =
    Maths.pair (Maths.score (Maths.gate (hidI m c) (hidT m c)) (arg m c main_arg14) (arg m c main_arg15) (hidI m c))
      (Maths.score (Maths.gate (hidI m c) (hidT m c)) (arg m c main_arg14) (arg m c main_arg15) (hidT m c)) i := by
  have h := (W2_arr m c 13).trans (FusedCall.arr_scores (V1 m) c)
  rw [twiceI_eq, twiceT_eq, FusedCall.scores, Payloads.pay13, Payloads.pay14] at h
  refine (congrFun h (ix2 0 i)).trans ((row_at _ _ i).trans ?_)
  rw [score_at, score_at]
/-- The row of scores of the raw features that it leaves. -/
theorem rawScores_at (i : Fin 8192) : (W2 m c (Proc.devRef .tc main_v6_2) : Mat 1 8192) (ix2 0 i) =
    Maths.pair (Maths.score (Maths.gate (hidI m c) (hidT m c)) (arg m c main_arg14) (arg m c main_arg15) (rawI m c))
      (Maths.score (Maths.gate (hidI m c) (hidT m c)) (arg m c main_arg14) (arg m c main_arg15) (rawT m c)) i := by
  have h := (W2_arr m c 14).trans (FusedCall.arr_rawScores (V1 m) c)
  rw [twiceI_eq, twiceT_eq, rawI_eq, rawT_eq, FusedCall.rawScores, Payloads.pay15] at h
  refine (congrFun h (ix2 0 i)).trans ((row_at _ _ i).trans ?_)
  rw [score_at, score_at]
/-- The item embeddings that the second call is entered with. -/
theorem embeddings_eq : W3 m c (Proc.devRef .tc main_v6_0) = FusedCall.embeddings (hidI m c) (hidT m c) := by
  have h := (W2_arr m c 12).trans (FusedCall.arr_embeddings (V1 m) c)
  rw [twiceI_eq, twiceT_eq] at h
  exact (W3_of m c main_v6_0 (by decide)).trans h

/-! ## The results -/

/-- The table that the second host stretch gathers by. -/
theorem table_at (j : Fin 8192) :
    (W2 m c (Proc.devRef .tc main_c) : IVec ⟨1, ![8192]⟩ 32) (ix1 j) = BitVec.ofNat 32 (Tables.rows j).val := by
  rw [W2_of_ne m c main_c (by decide)]
  exact (HostValues.c_at (W0 m c) j).trans (Tables.rows_eq j)

/-- The first result: all the scores. -/
theorem logits_eq : (W5 m c (Proc.devRef .tc main_v14) : Mat 1 16384) =
    Maths.logits (hidI m c) (hidT m c) (rawI m c) (rawT m c) Tables.rowI Tables.rowT (arg m c main_arg14) (arg m c main_arg15) := by
  rw [W5_of m c main_v14 (by decide), W4_of_ne m c main_v14 (by decide)]
  refine Maths.ext2 fun u j => ?_
  obtain rfl : u = 0 := Subsingleton.elim _ _
  refine (HostValues.v14_at (W2 m c) Tables.rows (table_at m c) j).trans ?_
  by_cases h : j.val < 8192
  · rw [dif_pos h, Maths.logits_low _ _ _ _ _ _ _ _ j h]
    exact scores_at m c ⟨j.val, h⟩
  · rw [dif_neg h, Maths.logits_high _ _ _ _ _ _ _ _ j h]
    refine (rawScores_at m c _).trans ?_
    obtain ⟨n, hn⟩ : ∃ n : Fin 8192, (⟨j.val - 8192, by omega⟩ : Fin 8192) = n := ⟨_, rfl⟩
    rw [hn]
    by_cases h' : n.val < 4096
    · rw [Tables.rows_low n h', Maths.pair_low _ _ n h']
      exact Maths.pair_low _ _ _ (Tables.rowI ⟨n.val, h'⟩).isLt
    · rw [Tables.rows_high n h', Maths.pair_high _ _ n h']
      refine (Maths.pair_high _ _ _ (Nat.not_lt.2 (Nat.le_add_right _ _))).trans ?_
      exact congrArg _ (Fin.ext (Nat.add_sub_cancel_left _ _))

/-- The second: the users' image features. -/
theorem usersI_eq : (W5 m c (Proc.devRef .tc main_v16) : Mat 8192 32) = Maths.prod (arg m c main_arg4 : Mat 8192 4096) (hidI m c) := by
  refine Maths.ext2 fun u j => ?_
  refine (HostValues.v16_at (W4 m c) u j).trans ?_
  have h := (W4_arr m c 2).trans (UserCall.arr_upper (V3 m) c (hidI m c) fun k j =>
    (congrFun (embeddings_eq m c) _).trans (FusedCall.cols_left _ _ k j))
  rw [show V3 m c main_arg4 = arg m c main_arg4 from W3_args m c main_arg4 (by simp)] at h
  exact congrFun h (ix2 j u)
/-- The third: the users' text features. -/
theorem usersT_eq : (W5 m c (Proc.devRef .tc main_v17) : Mat 8192 32) = Maths.prod (arg m c main_arg4 : Mat 8192 4096) (hidT m c) := by
  refine Maths.ext2 fun u j => ?_
  refine (HostValues.v17_at (W4 m c) u j).trans ?_
  have h := (W4_arr m c 3).trans (UserCall.arr_lower (V3 m) c (hidT m c) fun k j =>
    (congrFun (embeddings_eq m c) _).trans (FusedCall.cols_right _ _ k j))
  rw [show V3 m c main_arg4 = arg m c main_arg4 from W3_args m c main_arg4 (by simp)] at h
  exact congrFun h (ix2 j u)

end Cert.KernelIdeal.KernelValues

end
-- ==== Proof.RefTerms.lean ====
module

public import proofs.«01_k».proof.Proof.Maths
public import proofs.«01_k».proof.ReferenceIdeal
public import proofs.«01_k».proof.Proof.Gen.ReferenceIdeal
public import Idealize.ShloMosaic.Lib.Pointwise
public import Idealize.ShloMosaic.Lib.ReduceAll
public import Idealize.ShloMosaic.Lib.StableHlo.Predicate
public import Idealize.ShloMosaic.Lib.Routing.Ops
public import Idealize.ShloMosaic.Lib.Routing.OpsPair

/-! # The reference's terms, read at an index

The reference's results are compositions of a few terms: the two projections, two propagations, the gate, the rows of
scores, and the rows of a table taken by a list of row numbers. Each is named here and read at an index. -/

@[expose] public section

set_option maxRecDepth 16384

noncomputable section

namespace Cert.ReferenceIdeal.Terms

open Cert.ReferenceIdeal Cert.ReferenceIdeal.Gen
open Idealize.ShloMosaic Idealize.ShloMosaic.TcCoe Idealize.SL.Sem
open Cert.Maths (Mat)

/-! ## Projections and propagations -/

/-- The bias repeated on every row. -/
def bias (b : FVec Ideal S32 .f32) : FVec Ideal S4096x32 .f32 :=
  broadcastInDim S4096x32 ![0, 1] bcast_S1x32_S4096x32_0_1 (broadcastInDim S1x32 ![1] bcast_S32_S1x32_1 b)
/-- The projection of an image table. -/
def projI (x : FVec Ideal S4096x512 .f32) (W : FVec Ideal S512x32 .f32) (b : FVec Ideal S32 .f32) : FVec Ideal S4096x32 .f32 :=
  addf (Host.dotGeneral dot_S4096x512_S512x32_S4096x32_1_0_0_1_n_n none x W) (bias b)
/-- The projection of a text table. -/
def projT (x : FVec Ideal S4096x384 .f32) (W : FVec Ideal S384x32 .f32) (b : FVec Ideal S32 .f32) : FVec Ideal S4096x32 .f32 :=
  addf (Host.dotGeneral dot_S4096x384_S384x32_S4096x32_1_0_0_1_n_n none x W) (bias b)
/-- One propagation through an item graph. -/
def step (A : FVec Ideal S4096x4096 .f32) (x : FVec Ideal S4096x32 .f32) : FVec Ideal S4096x32 .f32 :=
  Host.dotGeneral dot_S4096x4096_S4096x32_S4096x32_1_0_0_1_n_n none A x
/-- The propagation to the users. -/
def toUsers (A : FVec Ideal S8192x4096 .f32) (x : FVec Ideal S4096x32 .f32) : FVec Ideal S8192x32 .f32 :=
  Host.dotGeneral dot_S8192x4096_S4096x32_S8192x32_1_0_0_1_n_n none A x

/-- The image projection as a sum. -/
theorem projI_eq (x : FVec Ideal S4096x512 .f32) (W : FVec Ideal S512x32 .f32) (b : FVec Ideal S32 .f32) :
    projI x W b = Maths.proj x W b := by
  refine Maths.ext2 fun i j => ?_
  pointwise [projI, bias, Maths.proj]
/-- The text projection as a sum. -/
theorem projT_eq (x : FVec Ideal S4096x384 .f32) (W : FVec Ideal S384x32 .f32) (b : FVec Ideal S32 .f32) :
    projT x W b = Maths.proj x W b := by
  refine Maths.ext2 fun i j => ?_
  pointwise [projT, bias, Maths.proj]
/-- One propagation is a matrix product. -/
theorem step_eq (A : FVec Ideal S4096x4096 .f32) (x : FVec Ideal S4096x32 .f32) : step A x = Maths.prod A x := by
  refine Maths.ext2 fun i j => ?_
  pointwise [step, Maths.prod]
/-- The users' features are a matrix product. -/
theorem toUsers_eq (A : FVec Ideal S8192x4096 .f32) (x : FVec Ideal S4096x32 .f32) : toUsers A x = Maths.prod A x := by
  refine Maths.ext2 fun i j => ?_
  pointwise [toUsers, Maths.prod]

/-! ## The gate and the rows of scores -/

/-- The gate of the two propagated projections. -/
def gate (hi ht : FVec Ideal S4096x32 .f32) : FVec Ideal S32 .f32 :=
  Host.divf (broadcastInDim S32 ![] bcast_S_S32 (constant S_ .f32 0x3F800000#32))
    (addf (broadcastInDim S32 ![] bcast_S_S32 (constant S_ .f32 0x3F800000#32))
      (Host.exp (Host.negf (Host.reduceAdd
        (mulf (addf hi ht) (broadcastInDim S4096x32 ![] bcast_S_S4096x32 (constant S_ .f32 0x3F000000#32)))
        (constant S_ .f32 0x00000000#32) reducesTo_S4096x32_S32_d0 h_S_))))
/-- The gate, read at an index. -/
theorem gate_eq (hi ht : FVec Ideal S4096x32 .f32) (j : Fin 32) : gate hi ht (ix1 j) = Maths.gate hi ht j := by
  pointwise [gate, Maths.gate, Ideal.logistic]

/-- The row of 8192 scores of `A`'s rows and then `B`'s. -/
def row (A B : FVec Ideal S4096x32 .f32) (g : FVec Ideal S32 .f32) (W : FVec Ideal S1x32x32 .f32) (b : FVec Ideal S1 .f32) :
    FVec Ideal S1x8192 .f32 :=
  broadcastInDim S1x8192 ![1] bcast_S8192_S1x8192_1 (shapeCast _ (addf
    (Host.dotGeneral dot_S8192x32_S1x32x8192_S8192x1_1_1_n_0_0_2 none
      (concatenate S8192x32 0 [⟨S4096x32, A⟩, ⟨S4096x32, B⟩] concatenates_S4096x32_S4096x32_S8192x32_d0)
      (Host.dotGeneral dot_S1x32x32_S8192x32_S1x32x8192_1_1_02_0_n_n none W
        (shapeCast _ (broadcastInDim S8192x1x1x32 ![0, 1, 2, 3] bcast_S1x1x1x32_S8192x1x1x32_0_1_2_3
          (shapeCast _ (broadcastInDim S1x32 ![1] bcast_S32_S1x32_1 g) shapeCasts_S1x32_S1x1x1x32))
          shapeCasts_S8192x1x1x32_S8192x32)))
    (broadcastInDim S8192x1 ![0, 1] bcast_S1x1_S8192x1_0_1 (broadcastInDim S1x1 ![1] bcast_S1_S1x1_1 b)))
    shapeCasts_S8192x1_S8192)
/-- A row of scores, read at an index: the first array, then the second. -/
theorem row_eq (A B : FVec Ideal S4096x32 .f32) (g : FVec Ideal S32 .f32) (W : FVec Ideal S1x32x32 .f32) (b : FVec Ideal S1 .f32)
    (i : Fin 8192) : row A B g W b (ix2 0 i) = if h : i.val < 4096 then Maths.score (fun j => g (ix1 j)) W b A ⟨i.val, h⟩
      else Maths.score (fun j => g (ix1 j)) W b B ⟨i.val - 4096, by omega⟩ := by
  pointwise [row, Maths.score]
  split
  all_goals
    refine congrArg (· + _) (Finset.sum_congr rfl fun d _ => ?_)
    rw [mul_comm]
    exact congrArg (· * _) (Finset.sum_congr rfl fun k _ => mul_comm _ _)

/-! ## Rows taken by number -/

/-- The row numbers, a negative one counted from the end. -/
def wrapped (l : IVec S4096 32) : IVec S4096x1 32 :=
  broadcastInDim S4096x1 ![0] bcast_S4096_S4096x1_0
    (select (cmpi .slt l (broadcastInDim S4096 ![] bcast_S_S4096 (constantI S_ 32 0#32)))
      (addi l (broadcastInDim S4096 ![] bcast_S_S4096 (constantI S_ 32 4096#32))) l)
/-- Whether each is a row of the table. -/
def inRange (l : IVec S4096 32) : IVec S4096 1 :=
  Host.reduce IntOp.andi
    (andi (cmpi .sge (wrapped l) (broadcastInDim S4096x1 ![] bcast_S_S4096x1 (constantI S_ 32 0#32)))
      (cmpi .sle (wrapped l) (broadcastInDim S4096x1 ![0, 1] bcast_S1x1_S4096x1_0_1
        (broadcastInDim S1x1 ![1] bcast_S1_S1x1_1 (constantI S1 32 4095#32)))))
    (constantI S_ 1 1#1) reducesTo_S4096x1_S4096_d1 h_S_
/-- The rows of an image table by a list of row numbers. -/
def takeI (l : IVec S4096 32) (x : FVec Ideal S4096x512 .f32) : FVec Ideal S4096x512 .f32 :=
  select (broadcastInDim S4096x512 ![0] bcast_S4096_S4096x512_0 (inRange l))
    (Host.gather gather_S4096x512_S4096x1_S4096x512_1_0_n_n_0_1_1512 x (wrapped l))
    (broadcastInDim S4096x512 ![] bcast_S_S4096x512 (constant S_ .f32 0x7FC00000#32))
/-- The rows of a text table by a list of row numbers. -/
def takeT (l : IVec S4096 32) (x : FVec Ideal S4096x384 .f32) : FVec Ideal S4096x384 .f32 :=
  select (broadcastInDim S4096x384 ![0] bcast_S4096_S4096x384_0 (inRange l))
    (Host.gather gather_S4096x384_S4096x1_S4096x384_1_0_n_n_0_1_1384 x (wrapped l))
    (broadcastInDim S4096x384 ![] bcast_S_S4096x384 (constant S_ .f32 0x7FC00000#32))

variable (l : IVec S4096 32) (hl : ∀ j : Fin 4096, (l (ix1 j)).toNat < 4096)
include hl

/-- A row number in range is not wrapped. -/
theorem wrapped_at (i : Fin 4096) : wrapped l (ix2 i 0) = l (ix1 i) := by
  pointwise [wrapped]
  exact Routing.wrap_of_lt _ _ (by have := hl i; omega)
/-- A row number in range passes the test of range. -/
theorem inRange_at (i : Fin 4096) : inRange l (ix1 i) = 1#1 := by
  refine Host.reduce_andi_one _ _ _ _ _ rfl fun y => ?_
  obtain ⟨r, k, rfl⟩ : ∃ (r : Fin 4096) (k : Fin 1), y = ix2 r k :=
    ⟨y 0, y 1, funext fun a => match a with | ⟨0, _⟩ => rfl | ⟨1, _⟩ => rfl⟩
  obtain rfl : k = 0 := Subsingleton.elim _ _
  have h := hl r
  pointwise
  rw [wrapped_at l hl]
  generalize l (ix1 r) = w at h
  have e : IntOp.cmpi .sge w 0#32 = 1#1 := (StableHlo.Predicate.sge_iff_toNat (by omega) (by decide)).2 (by simp)
  have e' : IntOp.cmpi .sle w 4095#32 = 1#1 := (StableHlo.Predicate.sle_iff_toNat (by omega) (by decide)).2 (by simp; omega)
  rw [e, e']
  decide
/-- Each row taken is the table's row of that number. -/
theorem takeI_at (x : FVec Ideal S4096x512 .f32) (i : Fin 4096) (k : Fin 512) :
    takeI l x (ix2 i k) = x (ix2 ⟨(l (ix1 i)).toNat, hl i⟩ k) := by
  pointwise [takeI]
  rw [inRange_at l hl]
  exact Routing.gather_row _ rfl rfl rfl rfl rfl x _ i k ⟨(l (ix1 i)).toNat, hl i⟩
    ((wrapped_at l hl i).trans (by simp)) (by decide)
/-- A taken row of a text table. -/
theorem takeT_at (x : FVec Ideal S4096x384 .f32) (i : Fin 4096) (k : Fin 384) :
    takeT l x (ix2 i k) = x (ix2 ⟨(l (ix1 i)).toNat, hl i⟩ k) := by
  pointwise [takeT]
  rw [inRange_at l hl]
  exact Routing.gather_row _ rfl rfl rfl rfl rfl x _ i k ⟨(l (ix1 i)).toNat, hl i⟩
    ((wrapped_at l hl i).trans (by simp)) (by decide)

end Cert.ReferenceIdeal.Terms

end
-- ==== Proof.RefValues.lean ====
module

public import proofs.«01_k».proof.Proof.RefTerms
public import proofs.«01_k».proof.Proof.TableRows
public import proofs.«01_k».proof.Proof.Gen.ReferenceIdeal.Run

/-! # What the reference computes, over extended reals -/

@[expose] public section

set_option maxRecDepth 16384

noncomputable section

namespace Cert.ReferenceIdeal.Terms

open Cert.ReferenceIdeal Cert.ReferenceIdeal.Gen
open Idealize.ShloMosaic Idealize.ShloMosaic.TcCoe Idealize.SL.Sem
open Cert.Maths (Mat)

variable (m : (ℓ : Loc nD τ sig) → Buf (Elt Ideal) ℓ) (c : Dev nD)

/-- The argument arrays' contents. -/
abbrev arg (r : Ref sig .tc) : Buf (Elt Ideal) ((c.tc : Thread nD τ).loc r) := m ((c.tc : Thread nD τ).loc r)

/-- The first list of row numbers. -/
abbrev list0 : IVec S4096 32 := fun i => lit0 (S4096.rowMajor i)
/-- The second list of row numbers. -/
abbrev list1 : IVec S4096 32 := fun i => lit1 (S4096.rowMajor i)

/-- The propagated image features. -/
abbrev hidI : FVec Ideal S4096x32 .f32 :=
  step (arg m c main_arg1) (step (arg m c main_arg1) (projI (arg m c main_arg6) (arg m c main_arg10) (arg m c main_arg11)))
/-- The propagated text features. -/
abbrev hidT : FVec Ideal S4096x32 .f32 :=
  step (arg m c main_arg3) (step (arg m c main_arg3) (projT (arg m c main_arg7) (arg m c main_arg12) (arg m c main_arg13)))

/-- The first result in the terms' names: the scores of the propagated features, then those of the raw features. -/
theorem out0_eq : Value.res_main_v64 m c = concatenate S1x16384 1
    [⟨S1x8192, row (hidI m c) (hidT m c) (gate (hidI m c) (hidT m c)) (arg m c main_arg14) (arg m c main_arg15)⟩,
     ⟨S1x8192, row (projI (takeI list0 (arg m c main_arg8)) (arg m c main_arg10) (arg m c main_arg11))
        (projT (takeT list1 (arg m c main_arg9)) (arg m c main_arg12) (arg m c main_arg13))
        (gate (hidI m c) (hidT m c)) (arg m c main_arg14) (arg m c main_arg15)⟩]
    concatenates_S1x8192_S1x8192_S1x16384_d1 := rfl

/-- The first list, read at an index. -/
theorem list0_at (i : Fin 4096) : list0 (ix1 i) = lit0 i := congrArg lit0 (Fin.ext (Shape.rowMajor_val_one _))
/-- The second list, read at an index. -/
theorem list1_at (i : Fin 4096) : list1 (ix1 i) = lit1 i := congrArg lit1 (Fin.ext (Shape.rowMajor_val_one _))

/-- The propagated image features, as plain mathematics. -/
theorem hidI_eq : hidI m c = Maths.twice (arg m c main_arg1 : Mat 4096 4096)
    (Maths.proj (arg m c main_arg6 : Mat 4096 512) (arg m c main_arg10) (arg m c main_arg11)) := by
  rw [hidI, step_eq, step_eq, projI_eq, Maths.twice]
/-- The propagated text features, as plain mathematics. -/
theorem hidT_eq : hidT m c = Maths.twice (arg m c main_arg3 : Mat 4096 4096)
    (Maths.proj (arg m c main_arg7 : Mat 4096 384) (arg m c main_arg12) (arg m c main_arg13)) := by
  rw [hidT, step_eq, step_eq, projT_eq, Maths.twice]

/-- A row of the projection of taken rows is the projection's row of that number. -/
theorem rawI_at (i : Fin 4096) (d : Fin 32) :
    projI (takeI list0 (arg m c main_arg8)) (arg m c main_arg10) (arg m c main_arg11) (ix2 i d) =
      Maths.proj (arg m c main_arg8 : Mat 4096 512) (arg m c main_arg10) (arg m c main_arg11) (ix2 (Tables.rowI i) d) := by
  have hl : ∀ j : Fin 4096, (list0 (ix1 j)).toNat < 4096 := fun j => by rw [list0_at]; exact (Cert.Tables.image j).2
  have e : (⟨(list0 (ix1 i)).toNat, hl i⟩ : Fin 4096) = Tables.rowI i := Fin.ext (by show (list0 (ix1 i)).toNat = (lit0 i).toNat; rw [list0_at])
  rw [projI_eq]
  simp only [Maths.proj, ix2_0, ix2_1, takeI_at _ hl, e]
/-- The projected raw text features, in the order of the second list. -/
theorem rawT_at (i : Fin 4096) (d : Fin 32) :
    projT (takeT list1 (arg m c main_arg9)) (arg m c main_arg12) (arg m c main_arg13) (ix2 i d) =
      Maths.proj (arg m c main_arg9 : Mat 4096 384) (arg m c main_arg12) (arg m c main_arg13) (ix2 (Tables.rowT i) d) := by
  have hl : ∀ j : Fin 4096, (list1 (ix1 j)).toNat < 4096 := fun j => by rw [list1_at]; exact (Cert.Tables.text j).2
  have e : (⟨(list1 (ix1 i)).toNat, hl i⟩ : Fin 4096) = Tables.rowT i := Fin.ext (by show (list1 (ix1 i)).toNat = (lit1 i).toNat; rw [list1_at])
  rw [projT_eq]
  simp only [Maths.proj, ix2_0, ix2_1, takeT_at _ hl, e]

/-- The first result: all the scores. -/
theorem out0_logits : Value.res_main_v64 m c = Maths.logits (hidI m c) (hidT m c)
    (Maths.proj (arg m c main_arg8 : Mat 4096 512) (arg m c main_arg10) (arg m c main_arg11))
    (Maths.proj (arg m c main_arg9 : Mat 4096 384) (arg m c main_arg12) (arg m c main_arg13)) Tables.rowI Tables.rowT
    (arg m c main_arg14) (arg m c main_arg15) := by
  rw [out0_eq]
  refine Maths.ext2 fun u j => ?_
  obtain rfl : u = 0 := Subsingleton.elim _ _
  have hg : (fun k => gate (hidI m c) (hidT m c) (ix1 k)) = Maths.gate (hidI m c) (hidT m c) :=
    funext fun k => gate_eq _ _ k
  generalize hidI m c = X at hg ⊢
  generalize hidT m c = Y at hg ⊢
  pointwise [Maths.logits, Maths.pair]
  split
  · rw [row_eq, hg]
  · rw [row_eq, hg]
    split
    · exact Maths.score_congr _ _ _ _ _ _ _ fun d => rawI_at m c _ d
    · exact Maths.score_congr _ _ _ _ _ _ _ fun d => rawT_at m c _ d

end Cert.ReferenceIdeal.Terms

end
-- ==== Proof.Equation.lean ====
module

public import proofs.«01_k».proof.Defs
public import proofs.«01_k».proof.Proof.Frames
public import proofs.«01_k».proof.Proof.KernelValues
public import proofs.«01_k».proof.Proof.RefValues

/-! # The two programs compute the same results

Over extended reals, from equal arguments, the kernel's three results are the reference's three. -/

@[expose] public section

set_option maxRecDepth 16384

noncomputable section

open Idealize.ShloMosaic Idealize.SL.Sem

namespace Cert.Equation

attribute [local instance] Cert.KernelIdeal.Gen.facts Cert.ReferenceIdeal.Gen.facts

section
open Cert.ReferenceIdeal
open Cert.ReferenceIdeal.Terms

variable (m : (ℓ : Loc Cert.KernelIdeal.nD Cert.KernelIdeal.τ Cert.KernelIdeal.sig) → Buf (Elt Ideal) ℓ)
  (m' : (ℓ : Loc nD τ sig) → Buf (Elt Ideal) ℓ) (c : Dev nD)

/-- The reference's propagated image features are the kernel's. -/
theorem hidI_same (h1 : arg m' c main_arg1 = KernelIdeal.KernelValues.arg m c Cert.KernelIdeal.main_arg1)
    (h6 : arg m' c main_arg6 = KernelIdeal.KernelValues.arg m c Cert.KernelIdeal.main_arg6)
    (h10 : arg m' c main_arg10 = KernelIdeal.KernelValues.arg m c Cert.KernelIdeal.main_arg10)
    (h11 : arg m' c main_arg11 = KernelIdeal.KernelValues.arg m c Cert.KernelIdeal.main_arg11) :
    hidI m' c = KernelIdeal.KernelValues.hidI m c := by
  rw [hidI_eq, h1, h6, h10, h11]; rfl
/-- And the propagated text features. -/
theorem hidT_same (h3 : arg m' c main_arg3 = KernelIdeal.KernelValues.arg m c Cert.KernelIdeal.main_arg3)
    (h7 : arg m' c main_arg7 = KernelIdeal.KernelValues.arg m c Cert.KernelIdeal.main_arg7)
    (h12 : arg m' c main_arg12 = KernelIdeal.KernelValues.arg m c Cert.KernelIdeal.main_arg12)
    (h13 : arg m' c main_arg13 = KernelIdeal.KernelValues.arg m c Cert.KernelIdeal.main_arg13) :
    hidT m' c = KernelIdeal.KernelValues.hidT m c := by
  rw [hidT_eq, h3, h7, h12, h13]; rfl

/-- The first results are equal. -/
theorem logits_same (hI : hidI m' c = KernelIdeal.KernelValues.hidI m c) (hT : hidT m' c = KernelIdeal.KernelValues.hidT m c)
    (h8 : arg m' c main_arg8 = KernelIdeal.KernelValues.arg m c Cert.KernelIdeal.main_arg8)
    (h9 : arg m' c main_arg9 = KernelIdeal.KernelValues.arg m c Cert.KernelIdeal.main_arg9)
    (h10 : arg m' c main_arg10 = KernelIdeal.KernelValues.arg m c Cert.KernelIdeal.main_arg10)
    (h11 : arg m' c main_arg11 = KernelIdeal.KernelValues.arg m c Cert.KernelIdeal.main_arg11)
    (h12 : arg m' c main_arg12 = KernelIdeal.KernelValues.arg m c Cert.KernelIdeal.main_arg12)
    (h13 : arg m' c main_arg13 = KernelIdeal.KernelValues.arg m c Cert.KernelIdeal.main_arg13)
    (h14 : arg m' c main_arg14 = KernelIdeal.KernelValues.arg m c Cert.KernelIdeal.main_arg14)
    (h15 : arg m' c main_arg15 = KernelIdeal.KernelValues.arg m c Cert.KernelIdeal.main_arg15) :
    Value.res_main_v64 m' c = KernelIdeal.Whole.W5 m c (Proc.devRef .tc Cert.KernelIdeal.main_v14) := by
  rw [out0_logits, hI, hT, h8, h9, h10, h11, h12, h13, h14, h15]
  exact (KernelIdeal.KernelValues.logits_eq m c).symm
/-- The users' image features are equal. -/
theorem usersI_same (hI : hidI m' c = KernelIdeal.KernelValues.hidI m c)
    (h4 : arg m' c main_arg4 = KernelIdeal.KernelValues.arg m c Cert.KernelIdeal.main_arg4) :
    toUsers (arg m' c main_arg4) (hidI m' c) = KernelIdeal.Whole.W5 m c (Proc.devRef .tc Cert.KernelIdeal.main_v16) := by
  rw [toUsers_eq, hI, h4]
  exact (KernelIdeal.KernelValues.usersI_eq m c).symm
/-- The users' text features are equal. -/
theorem usersT_same (hT : hidT m' c = KernelIdeal.KernelValues.hidT m c)
    (h4 : arg m' c main_arg4 = KernelIdeal.KernelValues.arg m c Cert.KernelIdeal.main_arg4) :
    toUsers (arg m' c main_arg4) (hidT m' c) = KernelIdeal.Whole.W5 m c (Proc.devRef .tc Cert.KernelIdeal.main_v17) := by
  rw [toUsers_eq, hT, h4]
  exact (KernelIdeal.KernelValues.usersT_eq m c).symm

end

/-- The claim: both programs end, with equal results. -/
theorem algebraic : Cert.algebraic_KernelIdeal_ReferenceIdeal := by
  intro m g m' g' _ h
  refine ⟨fun c => Cert.KernelIdeal.Whole.W5 m c (Proc.devRef .tc Cert.KernelIdeal.main_v14),
    fun c => Cert.KernelIdeal.Whole.W5 m c (Proc.devRef .tc Cert.KernelIdeal.main_v16),
    fun c => Cert.KernelIdeal.Whole.W5 m c (Proc.devRef .tc Cert.KernelIdeal.main_v17), ?_, ?_⟩
  · refine (θ_run Cert.KernelIdeal.defs _ _).mono (fun r hr c => ?_) (θ_run_and (Cert.KernelIdeal.Whole.run m g) (Cert.Frames.kernelIdeal m g trivial))
    exact ⟨hr.1.1 c _ (Cert.KernelIdeal.Whole.mem_uc _ (by decide)), hr.1.1 c _ (Cert.KernelIdeal.Whole.mem_uc _ (by decide)),
      hr.1.1 c _ (Cert.KernelIdeal.Whole.mem_uc _ (by decide)), hr.2.1 c⟩
  · refine (θ_run Cert.ReferenceIdeal.defs _ _).mono (fun r hr c => ?_) (Cert.ReferenceIdeal.Value.run (F := Ideal) m' g')
    obtain ⟨r0, r1, r2, args⟩ := hr c
    obtain ⟨-, h1, -, h3, h4, -, h6, h7, h8, h9, h10, h11, h12, h13, h14, h15⟩ := h c
    have eI := hidI_same m m' c h1 h6 h10 h11
    have eT := hidT_same m m' c h3 h7 h12 h13
    exact ⟨r0.trans (logits_same m m' c eI eT h8 h9 h10 h11 h12 h13 h14 h15), r1.trans (usersI_same m m' c eI h4),
      r2.trans (usersT_same m m' c eT h4), args⟩

end Cert.Equation

end
-- ==== Proof.lean ====
module

public import proofs.«01_k».proof.Defs
public import proofs.«01_k».proof.Proof.Frames
public import proofs.«01_k».proof.Proof.Equation
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem Cert.Kernel

/-- The three frames, the (empty) list of replacements and the equation. -/
theorem claim : Cert.Claim := ⟨Cert.Kernel.Gen.facts, Cert.KernelIdeal.Gen.facts, Cert.ReferenceIdeal.Gen.facts,
  Cert.Frames.kernel, Cert.Frames.kernelIdeal, Cert.Frames.referenceIdeal, trivial, Cert.Equation.algebraic⟩

end Cert.Proof

end
